-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S8192x16384 : Shape := ⟨2, ![8192, 16384]⟩
abbrev S16384 : Shape := ⟨1, ![16384]⟩
abbrev S256x8192 : Shape := ⟨2, ![256, 8192]⟩
abbrev S1x16384 : Shape := ⟨2, ![1, 16384]⟩
abbrev S256x1 : Shape := ⟨2, ![256, 1]⟩
abbrev S8192x512 : Shape := ⟨2, ![8192, 512]⟩
abbrev S1x512 : Shape := ⟨2, ![1, 512]⟩
abbrev S256 : Shape := ⟨1, ![256]⟩
abbrev S1x252 : Shape := ⟨2, ![1, 252]⟩
abbrev S256x252 : Shape := ⟨2, ![256, 252]⟩
abbrev S256x512 : Shape := ⟨2, ![256, 512]⟩

abbrev nBuf : Space → Nat
  | .hbm => 10
  | .vmem => 15
  | .smem => 0
  | _ => 0

abbrev bufTy : (tb : Table) → Fin (tcTables nBuf tb) → BufTy
  | .hbm, ⟨0, _⟩ => ⟨S256x1x8192, .bf16⟩
  | .hbm, ⟨1, _⟩ => ⟨S8192x16384, .fp8e4m3⟩
  | .hbm, ⟨2, _⟩ => ⟨S16384, .f32⟩
  | .hbm, ⟨3, _⟩ => ⟨S256x8192, .bf16⟩
  | .hbm, ⟨4, _⟩ => ⟨S1x16384, .f32⟩
  | .hbm, ⟨5, _⟩ => ⟨S1x16384, .f32⟩
  | .hbm, ⟨6, _⟩ => ⟨S256x1, .f32⟩
  | .hbm, ⟨7, _⟩ => ⟨S256x8192, .fp8e4m3⟩
  | .hbm, ⟨8, _⟩ => ⟨S256x8192, .fp8e4m3⟩
  | .hbm, ⟨9, _⟩ => ⟨S256x1, .f32⟩
  | .local _ .vmem, ⟨0, _⟩ => ⟨S256x8192, .bf16⟩
  | .local _ .vmem, ⟨1, _⟩ => ⟨S8192x512, .fp8e4m3⟩
  | .local _ .vmem, ⟨2, _⟩ => ⟨S8192x512, .fp8e4m3⟩
  | .local _ .vmem, ⟨3, _⟩ => ⟨S8192x512, .fp8e4m3⟩
  | .local _ .vmem, ⟨4, _⟩ => ⟨S8192x512, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S256x1, .f32⟩
  | .local _ .vmem, ⟨10, _⟩ => ⟨S256x8192, .fp8e4m3⟩
  | .local _ .vmem, ⟨11, _⟩ => ⟨S256x8192, .fp8e4m3⟩
  | .local _ .vmem, ⟨12, _⟩ => ⟨S256x1, .f32⟩
  | .local _ .vmem, ⟨13, _⟩ => ⟨S256x8192, .f32⟩
  | .local _ .vmem, ⟨14, _⟩ => ⟨S256x1, .f32⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_13 : Index := 0#32
  let arg0 : BitVec 32 := BitVec.ofNat 32 (i 0).val
  let c512_i32 : BitVec 32 := 512#32
  let v26 : BitVec 32 := Scalar.muli arg0 c512_i32
  let v27 : Index := Scalar.indexCast v26
  ![0, v27.toNat]
def k0_cond2 (i : grid0.Coords) : BitVec 1 :=
  let arg0 : BitVec 32 := BitVec.ofNat 32 (i 0).val
  let c15_i32 : BitVec 32 := 15#32
  let v39 : BitVec 1 := Scalar.cmpi .eq arg0 c15_i32
  let v40 : BitVec 32 := Scalar.extui v39
  let c0_i32_19 : BitVec 32 := 0#32
  let v41 : BitVec 1 := Scalar.cmpi .ne v40 c0_i32_19
  v41

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S256x1x8192 : Shape := ⟨3, ![256, 1, 8192]⟩
abbrev S8192x16384 : Shape := ⟨2, ![8192, 16384]⟩
abbrev S16384 : Shape := ⟨1, ![16384]⟩
abbrev S256x1 : Shape := ⟨2, ![256, 1]⟩
abbrev S256x8192 : Shape := ⟨2, ![256, 8192]⟩
abbrev S256 : Shape := ⟨1, ![256]⟩
abbrev S1x252 : Shape := ⟨2, ![1, 252]⟩
abbrev S256x252 : Shape := ⟨2, ![256, 252]⟩
abbrev S256x16384 : Shape := ⟨2, ![256, 16384]⟩
abbrev S1x16384 : Shape := ⟨2, ![1, 16384]⟩

abbrev nBuf : Space → Nat
  | .hbm => 7
  | .vmem => 7
  | .smem => 0
  | _ => 0

abbrev bufTy : (tb : Table) → Fin (tcTables nBuf tb) → BufTy
  | .hbm, ⟨0, _⟩ => ⟨S256x1x8192, .bf16⟩
  | .hbm, ⟨1, _⟩ => ⟨S8192x16384, .fp8e4m3⟩
  | .hbm, ⟨2, _⟩ => ⟨S16384, .f32⟩
  | .hbm, ⟨3, _⟩ => ⟨S256x1, .f32⟩
  | .hbm, ⟨4, _⟩ => ⟨S256x8192, .fp8e4m3⟩
  | .hbm, ⟨5, _⟩ => ⟨S256x8192, .fp8e4m3⟩
  | .hbm, ⟨6, _⟩ => ⟨S256x1, .f32⟩
  | .local _ .vmem, ⟨0, _⟩ => ⟨S256x1x8192, .bf16⟩
  | .local _ .vmem, ⟨1, _⟩ => ⟨S8192x16384, .fp8e4m3⟩
  | .local _ .vmem, ⟨2, _⟩ => ⟨S16384, .f32⟩
  | .local _ .vmem, ⟨3, _⟩ => ⟨S256x1, .f32⟩
  | .local _ .vmem, ⟨4, _⟩ => ⟨S256x8192, .fp8e4m3⟩
  | .local _ .vmem, ⟨5, _⟩ => ⟨S256x8192, .fp8e4m3⟩
  | .local _ .vmem, ⟨6, _⟩ => ⟨S256x1, .f32⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
/- One run of the kernel body, in each of its three cases: the first point (the rows of x are quantised), a middle
   point, the last point (the rows of h are quantised). Each triple names what every buffer holds afterwards. -/
module

public import proofs.«01_k».proof.Proof.Gen.KernelIdeal.Frame
public import proofs.«01_k».proof.Proof.Gen.KernelIdeal.Skeleton
public import Idealize.ShloMosaic.Lib.Pipeline.TableIdle
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What one point computes -/

/-- The codes of x: every row times the reciprocal of its scale, clipped and rounded. -/
def xCodes (x0 : Vec F S256x8192 .bf16) : Vec F S256x8192 .fp8e4m3 := k0_pay11 (k0_pay3 x0) (k0_pay4 x0) k0_pay6

/-- The scales of x's rows. -/
def xScales (x0 : Vec F S256x8192 .bf16) : Vec F S256x1 .f32 := k0_pay5 x0

/-- One block of 512 columns of h, from the codes and scales of x, the two blocks of weights and their scales. -/
def hBlock (xc : Vec F S256x8192 .fp8e4m3) (xs : Vec F S256x1 .f32) (x1 x2 : Vec F S8192x512 .fp8e4m3) (x3 x4 : Vec F S1x512 .f32) :
    Vec F S256x512 .f32 := k0_pay14 xc xs x1 x3 x2 x4

/-- The rows' largest absolute values of h, once this block has joined those before (`a`). -/
def amaxNext (xc : Vec F S256x8192 .fp8e4m3) (xs : Vec F S256x1 .f32) (x1 x2 : Vec F S8192x512 .fp8e4m3) (x3 x4 : Vec F S1x512 .f32)
    (a : Vec F S256x1 .f32) : Vec F S256x1 .f32 := k0_pay1 (k0_pay15 xc xs x1 x3 x2 x4 a)

/-- The codes of h, from h and its rows' largest absolute values. -/
def hCodes (a : Vec F S256x1 .f32) (h : Vec F S256x8192 .f32) : Vec F S256x8192 .fp8e4m3 := k0_pay2 (k0_pay9 a) k0_pay10 h

/-- The scales of h's rows. -/
def hScales (a : Vec F S256x1 .f32) : Vec F S256x1 .f32 := k0_pay8 a

/-- h with the block of point `i` put in its place. -/
def hPut (i : grid0.Coords) (d : Vec F S256x8192 .f32) (b : Vec F S256x512 .f32) : Vec F S256x8192 .f32 :=
  VecWindow.put d (k0_off1 i) S256x512.size b

/-! ## A store of a whole buffer -/

section
variable {κ : Kind} {sp : Space} {e : EltTy}

/-- A buffer of one column, stored whole, reads what was stored. -/
theorem read_full_S256x1 (v : View sig κ sp S256x1 e) (f : v.ty.Contents (Elt F)) (w : Vec F S256x1 e) (L : List (View.Piece (Elt F) S256x1 e)) :
    v.read (Elt F) (v.writes (Elt F) f (⟨Rect.unit ![0, 0] ![256, 1] inb_S256x1_S256x1_0_0, w⟩ :: L)) = w :=
  View.read_writes_full v f inb_S256x1_S256x1_0_0 w L

/-- A buffer of one column, stored whole and then loaded whole. -/
theorem readCov_full_S256x1 (v : View sig κ sp S256x1 e) (w : Vec F S256x1 e) (L : List (View.Piece (Elt F) S256x1 e)) :
    v.readCov (⟨Rect.unit ![0, 0] ![256, 1] inb_S256x1_S256x1_0_0, w⟩ :: L) (Rect.unit (s := S256x1) ![0, 0] ![256, 1] inb_S256x1_S256x1_0_0).toLoadRect = w :=
  View.readCov_full v inb_S256x1_S256x1_0_0 inb_S256x1_S256x1_0_0 w L

/-- A buffer of 8192 columns, stored whole, reads what was stored. -/
theorem read_full_S256x8192 (v : View sig κ sp S256x8192 e) (f : v.ty.Contents (Elt F)) (w : Vec F S256x8192 e) (L : List (View.Piece (Elt F) S256x8192 e)) :
    v.read (Elt F) (v.writes (Elt F) f (⟨Rect.unit ![0, 0] ![256, 8192] inb_S256x8192_S256x8192_0_0, w⟩ :: L)) = w :=
  View.read_writes_full v f inb_S256x8192_S256x8192_0_0 w L

/-- A buffer of shape S256x1 loaded whole reads what it holds. -/
theorem readAt_S256x1 (v : View sig κ sp S256x1 e) (f : v.ty.Contents (Elt F)) :
    v.readAt (Elt F) (Rect.unit (s := S256x1) ![0, 0] ![256, 1] inb_S256x1_S256x1_0_0).toLoadRect f = v.read (Elt F) f :=
  View.readAt_full v f inb_S256x1_S256x1_0_0

/-- A buffer of shape S256x8192 loaded whole reads what it holds. -/
theorem readAt_S256x8192 (v : View sig κ sp S256x8192 e) (f : v.ty.Contents (Elt F)) :
    v.readAt (Elt F) (Rect.unit (s := S256x8192) ![0, 0] ![256, 8192] inb_S256x8192_S256x8192_0_0).toLoadRect f = v.read (Elt F) f :=
  View.readAt_full v f inb_S256x8192_S256x8192_0_0

/-- A buffer of shape S8192x512 loaded whole reads what it holds. -/
theorem readAt_S8192x512 (v : View sig κ sp S8192x512 e) (f : v.ty.Contents (Elt F)) :
    v.readAt (Elt F) (Rect.unit (s := S8192x512) ![0, 0] ![8192, 512] inb_S8192x512_S8192x512_0_0).toLoadRect f = v.read (Elt F) f :=
  View.readAt_full v f inb_S8192x512_S8192x512_0_0

/-- A buffer of shape S1x512 loaded whole reads what it holds. -/
theorem readAt_S1x512 (v : View sig κ sp S1x512 e) (f : v.ty.Contents (Elt F)) :
    v.readAt (Elt F) (Rect.unit (s := S1x512) ![0, 0] ![1, 512] inb_S1x512_S1x512_0_0).toLoadRect f = v.read (Elt F) f :=
  View.readAt_full v f inb_S1x512_S1x512_0_0

/-- A buffer of 8192 columns, stored whole and then loaded whole. -/
theorem readCov_full_S256x8192 (v : View sig κ sp S256x8192 e) (w : Vec F S256x8192 e) (L : List (View.Piece (Elt F) S256x8192 e)) :
    v.readCov (⟨Rect.unit ![0, 0] ![256, 8192] inb_S256x8192_S256x8192_0_0, w⟩ :: L) (Rect.unit (s := S256x8192) ![0, 0] ![256, 8192] inb_S256x8192_S256x8192_0_0).toLoadRect = w :=
  View.readCov_full v inb_S256x8192_S256x8192_0_0 inb_S256x8192_S256x8192_0_0 w L

/-- A buffer of 8192 columns with a point's block stored over it. -/
theorem read_put (v : View sig κ sp S256x8192 e) (i : grid0.Coords) (d : Vec F S256x8192 e) (inb : ∀ a, (k0_off1 i) a + S256x512.size a ≤ S256x8192.size a)
    (w : Vec F S256x512 e) :
    v.read (Elt F) (v.writes (Elt F) (v.rep d) [⟨Rect.unit (k0_off1 i) ![256, 512] inb, w⟩]) = VecWindow.put d (k0_off1 i) S256x512.size w :=
  View.read_writes_rep_unit v d inb w rfl

end

/-- The condition of the body's first branch in the word form the program states it. -/
abbrev cond0 (i : grid0.Coords) : Prop := k0_cond1 i = 1#1
/-- The condition of the body's second branch. -/
abbrev cond1 (i : grid0.Coords) : Prop := k0_cond2 i = 1#1

/-! ## The three triples -/

/-- At the first point: x is quantised, the running maximum starts at zero, and the first block of h is computed. -/
theorem body_first (c : Dev nD) (i : grid0.Coords) (arg1 : Memref sig .tc .vmem S256x8192 .bf16) (harg1 : arg1.IsWhole) (arg2 : Memref sig .tc .vmem S8192x512 .fp8e4m3) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .vmem S256x8192 .fp8e4m3) (harg7 : arg7.IsWhole) (arg8 : Memref sig .tc .vmem S256x8192 .fp8e4m3) (harg8 : arg8.IsWhole) (arg9 : Memref sig .tc .vmem S256x1 .f32) (harg9 : arg9.IsWhole) (arg10 : Memref sig .tc .vmem S256x8192 .f32) (harg10 : arg10.IsWhole) (arg11 : Memref sig .tc .vmem S256x1 .f32) (harg11 : arg11.IsWhole)
    (hc0 : cond0 i) (hc1 : ¬cond1 i)
    (x0 : Vec F S256x8192 .bf16) (x1 x2 : Vec F S8192x512 .fp8e4m3) (x3 x4 : Vec F S1x512 .f32) (xi5 : Vec F S256x1 .f32) (xi6 : Vec F S256x8192 .fp8e4m3) (xc : Vec F S256x8192 .fp8e4m3) (xs : Vec F S256x1 .f32) (d : Vec F S256x8192 .f32) (a : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare d ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare (xCodes x0) ∗ owns (c : Thread nD τ) arg9 fullShare (xScales x0) ∗ owns (c : Thread nD τ) arg10 fullShare (hPut i d (hBlock (xCodes x0) (xScales x0) x1 x2 x3 x4)) ∗ owns (c : Thread nD τ) arg11 fullShare (amaxNext (xCodes x0) (xScales x0) x1 x2 x3 x4 k0_pay12)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [owns_eq_rep]
  simp only [cc0_swiglu_gate_up_fp8_eq_skeleton]; unfold cc0_swiglu_gate_up_fp8_skel
  simp only [k0_part3_eq_skeleton, k0_part1_eq_skeleton]
  iintro ⟨H0, H1, H2, H3, H4, H5, H6, H7, H8, HS0, HS1, Hk⟩
  sl_exec (disch := first | sl_exact hc0 | sl_exact hc1)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [← owns_eq_rep]; unfold owns; iexists _; isplitr
    swap; · iexact H7
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [H8]
  · rw [← owns_eq_rep]; unfold owns; iexists _; isplitr
    swap; · iexact H8
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [HS0]
  · rw [← owns_eq_rep]; unfold owns; iexists _; isplitr
    swap; · iexact HS0
    ipureintro
    sl_unfold_run_names; simp only [read_full_S256x1, read_full_S256x8192, readCov_full_S256x1, readCov_full_S256x8192, readAt_S256x1, readAt_S256x8192, readAt_S8192x512, readAt_S1x512, read_put, View.read_rep]; rfl
  rw [← owns_eq_rep]; unfold owns; iexists _; isplitr
  swap; · iexact HS1
  ipureintro
  sl_unfold_run_names; simp only [read_full_S256x1, read_full_S256x8192, readCov_full_S256x1, readCov_full_S256x8192, readAt_S256x1, readAt_S256x8192, readAt_S8192x512, readAt_S1x512, read_put, View.read_rep]; rfl

/-- At a middle point: one more block of h. -/
theorem body_middle (c : Dev nD) (i : grid0.Coords) (arg1 : Memref sig .tc .vmem S256x8192 .bf16) (harg1 : arg1.IsWhole) (arg2 : Memref sig .tc .vmem S8192x512 .fp8e4m3) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .vmem S256x8192 .fp8e4m3) (harg7 : arg7.IsWhole) (arg8 : Memref sig .tc .vmem S256x8192 .fp8e4m3) (harg8 : arg8.IsWhole) (arg9 : Memref sig .tc .vmem S256x1 .f32) (harg9 : arg9.IsWhole) (arg10 : Memref sig .tc .vmem S256x8192 .f32) (harg10 : arg10.IsWhole) (arg11 : Memref sig .tc .vmem S256x1 .f32) (harg11 : arg11.IsWhole)
    (hc0 : ¬cond0 i) (hc1 : ¬cond1 i)
    (x0 : Vec F S256x8192 .bf16) (x1 x2 : Vec F S8192x512 .fp8e4m3) (x3 x4 : Vec F S1x512 .f32) (xi5 : Vec F S256x1 .f32) (xi6 : Vec F S256x8192 .fp8e4m3) (xc : Vec F S256x8192 .fp8e4m3) (xs : Vec F S256x1 .f32) (d : Vec F S256x8192 .f32) (a : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare d ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare (hPut i d (hBlock xc xs x1 x2 x3 x4)) ∗ owns (c : Thread nD τ) arg11 fullShare (amaxNext xc xs x1 x2 x3 x4 a)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [owns_eq_rep]
  simp only [cc0_swiglu_gate_up_fp8_eq_skeleton]; unfold cc0_swiglu_gate_up_fp8_skel
  simp only [k0_part3_eq_skeleton]
  iintro ⟨H0, H1, H2, H3, H4, H5, H6, H7, H8, HS0, HS1, Hk⟩
  sl_exec (disch := first | sl_exact hc0 | sl_exact hc1)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]
  · rw [← owns_eq_rep]; unfold owns; iexists _; isplitr
    swap; · iexact HS0
    ipureintro
    sl_unfold_run_names; simp only [read_full_S256x1, read_full_S256x8192, readCov_full_S256x1, readCov_full_S256x8192, readAt_S256x1, readAt_S256x8192, readAt_S8192x512, readAt_S1x512, read_put, View.read_rep]; rfl
  rw [← owns_eq_rep]; unfold owns; iexists _; isplitr
  swap; · iexact HS1
  ipureintro
  sl_unfold_run_names; simp only [read_full_S256x1, read_full_S256x8192, readCov_full_S256x1, readCov_full_S256x8192, readAt_S256x1, readAt_S256x8192, readAt_S8192x512, readAt_S1x512, read_put, View.read_rep]; rfl

/-- At the last point: the last block of h, then h is quantised. -/
theorem body_last (c : Dev nD) (i : grid0.Coords) (arg1 : Memref sig .tc .vmem S256x8192 .bf16) (harg1 : arg1.IsWhole) (arg2 : Memref sig .tc .vmem S8192x512 .fp8e4m3) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .vmem S256x8192 .fp8e4m3) (harg7 : arg7.IsWhole) (arg8 : Memref sig .tc .vmem S256x8192 .fp8e4m3) (harg8 : arg8.IsWhole) (arg9 : Memref sig .tc .vmem S256x1 .f32) (harg9 : arg9.IsWhole) (arg10 : Memref sig .tc .vmem S256x8192 .f32) (harg10 : arg10.IsWhole) (arg11 : Memref sig .tc .vmem S256x1 .f32) (harg11 : arg11.IsWhole)
    (hc0 : ¬cond0 i) (hc1 : cond1 i)
    (x0 : Vec F S256x8192 .bf16) (x1 x2 : Vec F S8192x512 .fp8e4m3) (x3 x4 : Vec F S1x512 .f32) (xi5 : Vec F S256x1 .f32) (xi6 : Vec F S256x8192 .fp8e4m3) (xc : Vec F S256x8192 .fp8e4m3) (xs : Vec F S256x1 .f32) (d : Vec F S256x8192 .f32) (a : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare d ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (hScales (amaxNext xc xs x1 x2 x3 x4 a)) ∗ owns (c : Thread nD τ) arg7 fullShare (hCodes (amaxNext xc xs x1 x2 x3 x4 a) (hPut i d (hBlock xc xs x1 x2 x3 x4))) ∗ owns (c : Thread nD τ) arg8 fullShare xc ∗ owns (c : Thread nD τ) arg9 fullShare xs ∗ owns (c : Thread nD τ) arg10 fullShare (hPut i d (hBlock xc xs x1 x2 x3 x4)) ∗ owns (c : Thread nD τ) arg11 fullShare (amaxNext xc xs x1 x2 x3 x4 a)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [owns_eq_rep]
  simp only [cc0_swiglu_gate_up_fp8_eq_skeleton]; unfold cc0_swiglu_gate_up_fp8_skel
  simp only [k0_part3_eq_skeleton, k0_part2_eq_skeleton]
  iintro ⟨H0, H1, H2, H3, H4, H5, H6, H7, H8, HS0, HS1, Hk⟩
  sl_exec (disch := first | sl_exact hc0 | sl_exact hc1)
  sl_step
  iapply Hk
  isplitl [H0]; · iexact H0
  isplitl [H1]; · iexact H1
  isplitl [H2]; · iexact H2
  isplitl [H3]; · iexact H3
  isplitl [H4]; · iexact H4
  isplitl [H5]
  · rw [← owns_eq_rep]; unfold owns; iexists _; isplitr
    swap; · iexact H5
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [H6]
  · rw [← owns_eq_rep]; unfold owns; iexists _; isplitr
    swap; · iexact H6
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [H7]; · iexact H7
  isplitl [H8]; · iexact H8
  isplitl [HS0]
  · rw [← owns_eq_rep]; unfold owns; iexists _; isplitr
    swap; · iexact HS0
    ipureintro
    sl_unfold_run_names; simp only [read_full_S256x1, read_full_S256x8192, readCov_full_S256x1, readCov_full_S256x8192, readAt_S256x1, readAt_S256x8192, readAt_S8192x512, readAt_S1x512, read_put, View.read_rep]; rfl
  rw [← owns_eq_rep]; unfold owns; iexists _; isplitr
  swap; · iexact HS1
  ipureintro
  sl_unfold_run_names; simp only [read_full_S256x1, read_full_S256x8192, readCov_full_S256x1, readCov_full_S256x8192, readAt_S256x1, readAt_S256x8192, readAt_S8192x512, readAt_S1x512, read_put, View.read_rep]; rfl

end Cert.KernelIdeal.Hand

end
-- ==== Proof.Run.lean ====
/- The kernel's run: what every buffer holds between two points, the body obligation at every point, the launch,
   and the frame. -/
module

public import proofs.«01_k».proof.Proof.Body
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first branch is taken at the first point only. -/
theorem hcond0 (t : Fin cfg0.N) : cond0 (grid0.coords t) ↔ t.val = 0 := by
  have ht : t.val < 16 := Nat.lt_of_lt_of_eq t.isLt N_0
  have h : ∀ t : Fin grid0.N, cond0 (grid0.coords t) ↔ t.val = 0 := by
    decide +kernel
  exact h t

/-- The second branch is taken at the last point only. -/
theorem hcond1 (t : Fin cfg0.N) : cond1 (grid0.coords t) ↔ t.val = 15 := by
  have h : ∀ t : Fin grid0.N, cond1 (grid0.coords t) ↔ t.val = 15 := by
    decide +kernel
  exact h t

/-- At point `t` the block of h is stored from column `512 * t` on. -/
theorem off_eq (t : Fin cfg0.N) : k0_off1 (grid0.coords t) = ![0, 512 * t.val] := by
  have h : ∀ t : Fin grid0.N, k0_off1 (grid0.coords t) = ![0, 512 * t.val] := by decide +kernel
  exact h t

/-- The outputs of h are idle before the last point, -/
theorem idle5 (t : Fin cfg0.N) (h : t.val ≠ 15) : cfg0.idle 5 (grid0.coords t) = true := by
  have h' : ∀ t : Fin grid0.N, t.val ≠ 15 → cfg0.idle 5 (grid0.coords t) = true := by decide +kernel
  exact h' t h
theorem idle6 (t : Fin cfg0.N) (h : t.val ≠ 15) : cfg0.idle 6 (grid0.coords t) = true := by
  have h' : ∀ t : Fin grid0.N, t.val ≠ 15 → cfg0.idle 6 (grid0.coords t) = true := by decide +kernel
  exact h' t h
/-- and stored at the last. -/
theorem live5 (t : Fin cfg0.N) (h : t.val = 15) : cfg0.idle 5 (grid0.coords t) = false := by
  have h' : ∀ t : Fin grid0.N, t.val = 15 → cfg0.idle 5 (grid0.coords t) = false := by decide +kernel
  exact h' t h
theorem live6 (t : Fin cfg0.N) (h : t.val = 15) : cfg0.idle 6 (grid0.coords t) = false := by
  have h' : ∀ t : Fin grid0.N, t.val = 15 → cfg0.idle 6 (grid0.coords t) = false := by decide +kernel
  exact h' t h
/-- The outputs of x are stored at the first point, -/
theorem live7 (t : Fin cfg0.N) (h : t.val = 0) : cfg0.idle 7 (grid0.coords t) = false := by
  have h' : ∀ t : Fin grid0.N, t.val = 0 → cfg0.idle 7 (grid0.coords t) = false := by decide +kernel
  exact h' t h
theorem live8 (t : Fin cfg0.N) (h : t.val = 0) : cfg0.idle 8 (grid0.coords t) = false := by
  have h' : ∀ t : Fin grid0.N, t.val = 0 → cfg0.idle 8 (grid0.coords t) = false := by decide +kernel
  exact h' t h
/-- and idle after it. -/
theorem idle7 (t : Fin cfg0.N) (h : t.val ≠ 0) : cfg0.idle 7 (grid0.coords t) = true := by
  have h' : ∀ t : Fin grid0.N, t.val ≠ 0 → cfg0.idle 7 (grid0.coords t) = true := by decide +kernel
  exact h' t h
theorem idle8 (t : Fin cfg0.N) (h : t.val ≠ 0) : cfg0.idle 8 (grid0.coords t) = true := by
  have h' : ∀ t : Fin grid0.N, t.val ≠ 0 → cfg0.idle 8 (grid0.coords t) = true := by decide +kernel
  exact h' t h

/-- No output is written back before the last point. -/
theorem noFlush (w : Fin cfg0.W) (hw : ∀ t : Fin cfg0.N, (cfg0.win w).flush t = true ↔ t.val % 16 = 15) (t : Fin cfg0.N) (h : t.val ≠ 15) :
    (cfg0.win w).flush t = false := by
  have ht : t.val < 16 := Nat.lt_of_lt_of_eq t.isLt N_0
  rw [Bool.eq_false_iff]; intro h'; have := (hw t).mp h'; omega

/-- Every output is written back at the last. -/
theorem doFlush (w : Fin cfg0.W) (hw : ∀ t : Fin cfg0.N, (cfg0.win w).flush t = true ↔ t.val % 16 = 15) (t : Fin cfg0.N) (h : t.val = 15) :
    (cfg0.win w).flush t = true := (hw t).mpr (by omega)

/-- The outputs of x hold nothing of the body's at the first point only (7), -/
theorem fresh7 (n : ℕ) (hn : n < cfg0.N) : cfg0.fresh 7 n = (n == 0 || n == 16) :=
  cfg0.fresh_tab 7 (fun n => n == 0 || n == 16) rfl (by decide +kernel) n hn.le
/-- likewise (8). -/
theorem fresh8 (n : ℕ) (hn : n < cfg0.N) : cfg0.fresh 8 n = (n == 0 || n == 16) :=
  cfg0.fresh_tab 8 (fun n => n == 0 || n == 16) rfl (by decide +kernel) n hn.le

/-! ## What the buffers hold -/

/-- The first point. -/
def pt0 : Fin cfg0.N := ⟨0, by rw [show cfg0.N = 16 from N_0]; decide⟩

/-- The codes of x. -/
def XC (c : Dev nD) : Vec F S256x8192 .fp8e4m3 := xCodes (iblk m c 0 pt0)

/-- The scales of x. -/
def XS (c : Dev nD) : Vec F S256x1 .f32 := xScales (iblk m c 0 pt0)

/-- The block of h computed at point `t`. -/
def HB (c : Dev nD) (t : Fin cfg0.N) : Vec F S256x512 .f32 := hBlock (XC m c) (XS m c) (iblk m c 1 t) (iblk m c 2 t) (iblk m c 3 t) (iblk m c 4 t)

/-- The rows' running maxima before point `n`. -/
def AM (c : Dev nD) : ℕ → Vec F S256x1 .f32
  | 0 => k0_pay12
  | n + 1 => if h : n < cfg0.N then amaxNext (XC m c) (XS m c) (iblk m c 1 ⟨n, h⟩) (iblk m c 2 ⟨n, h⟩) (iblk m c 3 ⟨n, h⟩) (iblk m c 4 ⟨n, h⟩) (AM c n) else AM c n

theorem AM_succ (c : Dev nD) (t : Fin cfg0.N) :
    AM m c (t.val + 1) = amaxNext (XC m c) (XS m c) (iblk m c 1 t) (iblk m c 2 t) (iblk m c 3 t) (iblk m c 4 t) (AM m c t.val) := by
  rw [AM, dif_pos t.isLt]

/-- The point that computes column `j` of h. -/
def colPt (j : ℕ) (hj : j < 8192) : Fin cfg0.N := ⟨j / 512, by rw [show cfg0.N = 16 from N_0]; omega⟩

/-- An index of h within its block. -/
def colIdx (ix : S256x8192.Idx) : S256x512.Idx := fun a => match a with
  | ⟨0, _⟩ => ⟨(ix 0).val, (ix 0).isLt⟩
  | ⟨1, _⟩ => ⟨(ix 1).val % 512, Nat.mod_lt _ (by decide)⟩

/-- The whole of h: each column from the point that computes it. -/
def HH (c : Dev nD) : Vec F S256x8192 .f32 := fun ix => HB m c (colPt (ix 1).val (ix 1).isLt) (colIdx ix)

/-- `d` holds h in the columns computed before point `n`. -/
def HeldUpTo (c : Dev nD) (n : ℕ) (d : Vec F S256x8192 .f32) : Prop := ∀ ix : S256x8192.Idx, (ix 1).val < 512 * n → d ix = HH m c ix

/-- Storing the block of point `t` extends the columns held by 512. -/
theorem held_put (c : Dev nD) (t : Fin cfg0.N) (d : Vec F S256x8192 .f32) (h : HeldUpTo m c t.val d) :
    HeldUpTo m c (t.val + 1) (hPut (grid0.coords t) d (HB m c t)) := by
  intro ix hix
  unfold hPut
  rw [off_eq]
  by_cases hlo : (ix 1).val < 512 * t.val
  · refine Eq.trans ?_ (h ix hlo)
    refine dif_neg fun hall => ?_
    have h1 := (hall 1).1
    have e : (![0, 512 * t.val] : Fin 2 → ℕ) 1 = 512 * t.val := rfl
    rw [e] at h1
    omega
  · have h0 : (ix 0).val < 256 := (ix 0).isLt
    have hm : ∀ a, (![0, 512 * t.val] : Fin 2 → ℕ) a ≤ (ix a).val ∧ (ix a).val < (![0, 512 * t.val] : Fin 2 → ℕ) a + S256x512.size a := by
      intro a
      match a with
      | ⟨0, _⟩ => exact ⟨Nat.zero_le _, by show (ix 0).val < 0 + 256; omega⟩
      | ⟨1, _⟩ => exact ⟨by show 512 * t.val ≤ (ix 1).val; omega, by show (ix 1).val < 512 * t.val + 512; omega⟩
    refine (dif_pos hm).trans ?_
    have ht : colPt (ix 1).val (ix 1).isLt = t := Fin.ext (by show (ix 1).val / 512 = t.val; omega)
    unfold HH
    rw [ht]
    refine congrArg (HB m c t) (funext fun a => Fin.ext ?_)
    match a with
    | ⟨0, _⟩ => show (ix 0).val - 0 = (ix 0).val; omega
    | ⟨1, _⟩ => show (ix 1).val - 512 * t.val = (ix 1).val % 512; omega

/-- After the last point every column is held. -/
theorem held_all (c : Dev nD) (d : Vec F S256x8192 .f32) (h : HeldUpTo m c 16 d) : d = HH m c :=
  funext fun ix => h ix (by have : (ix 1).val < 8192 := (ix 1).isLt; omega)

/-- What is held before any point is no condition. -/
theorem held_zero (c : Dev nD) (d : Vec F S256x8192 .f32) : HeldUpTo m c 0 d := fun ix h => absurd h (by omega)

/-! ## The proof data -/

abbrev scM0_0 : Memref sig .tc .vmem S256x8192 .f32 := Memref.whole cc0_scratch0
abbrev scM0_1 : Memref sig .tc .vmem S256x1 .f32 := Memref.whole cc0_scratch1

/-- The invariant before point `n`: the scratch of h holds the columns computed so far; the scratch of the maxima holds
    the running maxima, once the first point has passed; the generator register is at some state. -/
def PhiS (c : Dev nD) (n : ℕ) : sProp 𝕄 :=
  iprop(∃ (d : Vec F S256x8192 .f32) (a : Vec F S256x1 .f32), ⌜HeldUpTo m c n d ∧ (n ≠ 0 → a = AM m c n)⌝
    ∗ owns (c : Thread nD τ) scM0_0 fullShare d ∗ owns (c : Thread nD τ) scM0_1 fullShare a ∗ (∃ r, prngReg c r))

/-- The class's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the pipeline on core `c`: after every point the inputs' buffers hold their blocks, the outputs'
    the codes and scales of h and of x. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hScales (AM m c 16)
    | ⟨6, _⟩ => hCodes (AM m c 16) (HH m c)
    | ⟨7, _⟩ => XC m c
    | ⟨8, _⟩ => XS m c
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hScales (AM m c 16) := by dsimp only [dats]
theorem after6 (c : Dev nD) (t : Fin cfg0.N) : (dats m 0 c).after 6 t = hCodes (AM m c 16) (HH m c) := by dsimp only [dats]
theorem after7 (c : Dev nD) (t : Fin cfg0.N) : (dats m 0 c).after 7 t = XC m c := by dsimp only [dats]
theorem after8 (c : Dev nD) (t : Fin cfg0.N) : (dats m 0 c).after 8 t = XS m c := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- After the first point the buffer of the codes of x holds them, -/
theorem before7 (c : Dev nD) (t : Fin cfg0.N) (h : t.val ≠ 0) (d) : (dats m 0 c).before 7 t d = XC m c := by
  have ht : t.val < 16 := Nat.lt_of_lt_of_eq t.isLt N_0
  rw [(dats m 0 c).before_out_traj 7 rfl (fun _ _ => rfl) (fun t _ _ _ => by rw [after7, after7]) t.val t rfl d, fresh7 _ t.isLt, after7]
  rw [if_neg]; simp; omega
/-- and that of the scales of x holds those. -/
theorem before8 (c : Dev nD) (t : Fin cfg0.N) (h : t.val ≠ 0) (d) : (dats m 0 c).before 8 t d = XS m c := by
  have ht : t.val < 16 := Nat.lt_of_lt_of_eq t.isLt N_0
  rw [(dats m 0 c).before_out_traj 8 rfl (fun _ _ => rfl) (fun t _ _ _ => by rw [after8, after8]) t.val t rfl d, fresh8 _ t.isLt, after8]
  rw [if_neg]; simp; omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window the point stores into is left at its named contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- A window written back where it is idle is left at its named contents. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- The body at the first point. -/
theorem sound_first (c : Dev nD) (t : Fin cfg0.N) (h0 : t.val = 0) (h1 : t.val ≠ 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t rfl, leaves_live m c 1 t rfl, leaves_live m c 2 t rfl, leaves_live m c 3 t rfl, leaves_live m c 4 t rfl, after0, after1, after2, after3, after4]
  rw [Dat.leavesExact_idle _ 5 t (idle5 t h1) (noFlush 5 flush0_5 t h1), Dat.leavesExact_idle _ 6 t (idle6 t h1) (noFlush 6 flush0_6 t h1)]
  rw [leaves_live m c 7 t (live7 t h0), leaves_live m c 8 t (live8 t h0), after7, after8]
  unfold PhiS
  iintro ⟨⟨%d, %a, %hda, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : t = pt0 := Fin.ext h0
  iapply (body_first c (grid0.coords pt0) _ _ _ _ _ _ _ _ _ _ _ _ _ _ _ _ _ _ _ _ _ _ ((hcond0 pt0).mpr h0) (fun h => h1 ((hcond1 pt0).mp h)) (iblk m c 0 pt0) (iblk m c 1 pt0) (iblk m c 2 pt0) (iblk m c 3 pt0) (iblk m c 4 pt0) _ _ _ _ d a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists (hPut (grid0.coords pt0) d (HB m c pt0)), (AM m c (pt0.val + 1))
    isplitr
    · ipureintro; exact ⟨held_put m c pt0 d hda.1, fun _ => rfl⟩
    isplitl [HS0]; · iexact HS0
    isplitl [HS1]
    · rw [AM_succ]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

/-- The body at a middle point. -/
theorem sound_middle (c : Dev nD) (t : Fin cfg0.N) (h0 : t.val ≠ 0) (h1 : t.val ≠ 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t rfl, leaves_live m c 1 t rfl, leaves_live m c 2 t rfl, leaves_live m c 3 t rfl, leaves_live m c 4 t rfl, after0, after1, after2, after3, after4]
  rw [Dat.leavesExact_idle _ 5 t (idle5 t h1) (noFlush 5 flush0_5 t h1), Dat.leavesExact_idle _ 6 t (idle6 t h1) (noFlush 6 flush0_6 t h1)]
  rw [Dat.leavesExact_idle _ 7 t (idle7 t h0) (noFlush 7 flush0_7 t h1), Dat.leavesExact_idle _ 8 t (idle8 t h0) (noFlush 8 flush0_8 t h1)]
  simp only [before7 m c t h0, before8 m c t h0]
  unfold PhiS
  iintro ⟨⟨%d, %a, %hda, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : a = AM m c t.val := hda.2 h0
  iapply (body_middle c (grid0.coords t) _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) _ _ _ _ d (AM m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists (hPut (grid0.coords t) d (HB m c t)), (AM m c (t.val + 1))
    isplitr
    · ipureintro; exact ⟨held_put m c t d hda.1, fun _ => rfl⟩
    isplitl [HS0]; · iexact HS0
    isplitl [HS1]
    · rw [AM_succ]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

/-- The body at the last point. -/
theorem sound_last (c : Dev nD) (t : Fin cfg0.N) (h0 : t.val ≠ 0) (h1 : t.val = 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t rfl, leaves_live m c 1 t rfl, leaves_live m c 2 t rfl, leaves_live m c 3 t rfl, leaves_live m c 4 t rfl, after0, after1, after2, after3, after4]
  rw [leaves_live m c 5 t (live5 t h1), leaves_live m c 6 t (live6 t h1), after5, after6]
  rw [leaves_flush m c 7 t (idle7 t h0) (doFlush 7 flush0_7 t h1), leaves_flush m c 8 t (idle8 t h0) (doFlush 8 flush0_8 t h1), after7, after8]
  simp only [before7 m c t h0, before8 m c t h0]
  have hend : AM m c 16 = amaxNext (XC m c) (XS m c) (iblk m c 1 t) (iblk m c 2 t) (iblk m c 3 t) (iblk m c 4 t) (AM m c t.val) := by
    rw [← AM_succ, h1]
  have hfull : ∀ d, HeldUpTo m c t.val d → hPut (grid0.coords t) d (HB m c t) = HH m c := fun d hd => held_all m c _ (by
    have h := held_put m c t d hd; rw [h1] at h; exact h)
  unfold PhiS
  iintro ⟨⟨%d, %a, %hda, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : a = AM m c t.val := hda.2 h0
  iapply (body_last c (grid0.coords t) _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) _ _ _ _ d (AM m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists (hPut (grid0.coords t) d (HB m c t)), (AM m c (t.val + 1))
    isplitr
    · ipureintro; exact ⟨held_put m c t d hda.1, fun _ => rfl⟩
    isplitl [HS0]; · iexact HS0
    isplitl [HS1]
    · rw [AM_succ]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · rw [hend]; iexact H5
  isplitl [H6]
  · rw [hend, ← hfull d hda.1]; iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0 (by omega)
  · by_cases h1 : t.val = 15
    · exact sound_last m c t h0 h1
    · exact sound_middle m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d, HS0⟩, ⟨%a, HS1⟩⟩, Hg⟩
  iexists d, a
  isplitr
  · ipureintro; exact ⟨held_zero m c d, fun h => absurd rfl h⟩
  isplitl [HS0]; · iexact HS0
  isplitl [HS1]; · iexact HS1
  iexact Hg

/-- After the last point the invariant gives the scratch back: its contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%d, %a, -, HS0, HS1, Hg⟩
  isplitl [HS0 HS1]
  · isplitl [HS0]
    · iexists _; iexact HS0
    iexists _; iexact HS1
  iexact Hg

/-! ## The run and the frame -/

-- the launch theorem's implicit arguments are found by unifying its conclusion with this one
set_option backward.isDefEq.respectTransparency.types false in
/-- THE LAUNCH: every array of the pipeline ends at what the proof data say, and every semaphore counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: every execution terminates without a fault, the arguments end unchanged, and every semaphore counter
    reads zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.KBody.lean ====
/- One run of the kernel body, in each of its three cases: the first point (the rows of x are quantised), a middle
   point, the last point (the rows of h are quantised). Each triple names what every buffer holds afterwards. -/
module

public import proofs.«01_k».proof.Proof.Gen.Kernel.Frame
public import proofs.«01_k».proof.Proof.Gen.Kernel.Skeleton
public import Idealize.ShloMosaic.Lib.Pipeline.TableIdle
public import Idealize.ShloMosaic.Lib.VecWindow

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What one point computes -/

/-- The codes of x: every row times the reciprocal of its scale, clipped and rounded. -/
def xCodes (x0 : Vec F S256x8192 .bf16) : Vec F S256x8192 .fp8e4m3 := k0_pay11 (k0_pay3 x0) (k0_pay4 x0) k0_pay6

/-- The scales of x's rows. -/
def xScales (x0 : Vec F S256x8192 .bf16) : Vec F S256x1 .f32 := k0_pay5 x0

/-- One block of 512 columns of h, from the codes and scales of x, the two blocks of weights and their scales. -/
def hBlock (xc : Vec F S256x8192 .fp8e4m3) (xs : Vec F S256x1 .f32) (x1 x2 : Vec F S8192x512 .fp8e4m3) (x3 x4 : Vec F S1x512 .f32) :
    Vec F S256x512 .f32 := k0_pay14 xc xs x1 x3 x2 x4

/-- The rows' largest absolute values of h, once this block has joined those before (`a`). -/
def amaxNext (xc : Vec F S256x8192 .fp8e4m3) (xs : Vec F S256x1 .f32) (x1 x2 : Vec F S8192x512 .fp8e4m3) (x3 x4 : Vec F S1x512 .f32)
    (a : Vec F S256x1 .f32) : Vec F S256x1 .f32 := k0_pay1 (k0_pay15 xc xs x1 x3 x2 x4 a)

/-- The codes of h, from h and its rows' largest absolute values. -/
def hCodes (a : Vec F S256x1 .f32) (h : Vec F S256x8192 .f32) : Vec F S256x8192 .fp8e4m3 := k0_pay2 (k0_pay9 a) k0_pay10 h

/-- The scales of h's rows. -/
def hScales (a : Vec F S256x1 .f32) : Vec F S256x1 .f32 := k0_pay8 a

/-- h with the block of point `i` put in its place. -/
def hPut (i : grid0.Coords) (d : Vec F S256x8192 .f32) (b : Vec F S256x512 .f32) : Vec F S256x8192 .f32 :=
  VecWindow.put d (k0_off1 i) S256x512.size b

/-! ## A store of a whole buffer -/

section
variable {κ : Kind} {sp : Space} {e : EltTy}

/-- A buffer of one column, stored whole, reads what was stored. -/
theorem read_full_S256x1 (v : View sig κ sp S256x1 e) (f : v.ty.Contents (Elt F)) (w : Vec F S256x1 e) (L : List (View.Piece (Elt F) S256x1 e)) :
    v.read (Elt F) (v.writes (Elt F) f (⟨Rect.unit ![0, 0] ![256, 1] inb_S256x1_S256x1_0_0, w⟩ :: L)) = w :=
  View.read_writes_full v f inb_S256x1_S256x1_0_0 w L

/-- A buffer of one column, stored whole and then loaded whole. -/
theorem readCov_full_S256x1 (v : View sig κ sp S256x1 e) (w : Vec F S256x1 e) (L : List (View.Piece (Elt F) S256x1 e)) :
    v.readCov (⟨Rect.unit ![0, 0] ![256, 1] inb_S256x1_S256x1_0_0, w⟩ :: L) (Rect.unit (s := S256x1) ![0, 0] ![256, 1] inb_S256x1_S256x1_0_0).toLoadRect = w :=
  View.readCov_full v inb_S256x1_S256x1_0_0 inb_S256x1_S256x1_0_0 w L

/-- A buffer of 8192 columns, stored whole, reads what was stored. -/
theorem read_full_S256x8192 (v : View sig κ sp S256x8192 e) (f : v.ty.Contents (Elt F)) (w : Vec F S256x8192 e) (L : List (View.Piece (Elt F) S256x8192 e)) :
    v.read (Elt F) (v.writes (Elt F) f (⟨Rect.unit ![0, 0] ![256, 8192] inb_S256x8192_S256x8192_0_0, w⟩ :: L)) = w :=
  View.read_writes_full v f inb_S256x8192_S256x8192_0_0 w L

/-- A buffer of shape S256x1 loaded whole reads what it holds. -/
theorem readAt_S256x1 (v : View sig κ sp S256x1 e) (f : v.ty.Contents (Elt F)) :
    v.readAt (Elt F) (Rect.unit (s := S256x1) ![0, 0] ![256, 1] inb_S256x1_S256x1_0_0).toLoadRect f = v.read (Elt F) f :=
  View.readAt_full v f inb_S256x1_S256x1_0_0

/-- A buffer of shape S256x8192 loaded whole reads what it holds. -/
theorem readAt_S256x8192 (v : View sig κ sp S256x8192 e) (f : v.ty.Contents (Elt F)) :
    v.readAt (Elt F) (Rect.unit (s := S256x8192) ![0, 0] ![256, 8192] inb_S256x8192_S256x8192_0_0).toLoadRect f = v.read (Elt F) f :=
  View.readAt_full v f inb_S256x8192_S256x8192_0_0

/-- A buffer of shape S8192x512 loaded whole reads what it holds. -/
theorem readAt_S8192x512 (v : View sig κ sp S8192x512 e) (f : v.ty.Contents (Elt F)) :
    v.readAt (Elt F) (Rect.unit (s := S8192x512) ![0, 0] ![8192, 512] inb_S8192x512_S8192x512_0_0).toLoadRect f = v.read (Elt F) f :=
  View.readAt_full v f inb_S8192x512_S8192x512_0_0

/-- A buffer of shape S1x512 loaded whole reads what it holds. -/
theorem readAt_S1x512 (v : View sig κ sp S1x512 e) (f : v.ty.Contents (Elt F)) :
    v.readAt (Elt F) (Rect.unit (s := S1x512) ![0, 0] ![1, 512] inb_S1x512_S1x512_0_0).toLoadRect f = v.read (Elt F) f :=
  View.readAt_full v f inb_S1x512_S1x512_0_0

/-- A buffer of 8192 columns, stored whole and then loaded whole. -/
theorem readCov_full_S256x8192 (v : View sig κ sp S256x8192 e) (w : Vec F S256x8192 e) (L : List (View.Piece (Elt F) S256x8192 e)) :
    v.readCov (⟨Rect.unit ![0, 0] ![256, 8192] inb_S256x8192_S256x8192_0_0, w⟩ :: L) (Rect.unit (s := S256x8192) ![0, 0] ![256, 8192] inb_S256x8192_S256x8192_0_0).toLoadRect = w :=
  View.readCov_full v inb_S256x8192_S256x8192_0_0 inb_S256x8192_S256x8192_0_0 w L

/-- A buffer of 8192 columns with a point's block stored over it. -/
theorem read_put (v : View sig κ sp S256x8192 e) (i : grid0.Coords) (d : Vec F S256x8192 e) (inb : ∀ a, (k0_off1 i) a + S256x512.size a ≤ S256x8192.size a)
    (w : Vec F S256x512 e) :
    v.read (Elt F) (v.writes (Elt F) (v.rep d) [⟨Rect.unit (k0_off1 i) ![256, 512] inb, w⟩]) = VecWindow.put d (k0_off1 i) S256x512.size w :=
  View.read_writes_rep_unit v d inb w rfl

end

/-- The condition of the body's first branch in the word form the program states it. -/
abbrev cond0 (i : grid0.Coords) : Prop := k0_cond1 i = 1#1
/-- The condition of the body's second branch. -/
abbrev cond1 (i : grid0.Coords) : Prop := k0_cond2 i = 1#1

/-! ## The three triples -/

/-- At the first point: x is quantised, the running maximum starts at zero, and the first block of h is computed. -/
theorem body_first (c : Dev nD) (i : grid0.Coords) (arg1 : Memref sig .tc .vmem S256x8192 .bf16) (harg1 : arg1.IsWhole) (arg2 : Memref sig .tc .vmem S8192x512 .fp8e4m3) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .vmem S256x8192 .fp8e4m3) (harg7 : arg7.IsWhole) (arg8 : Memref sig .tc .vmem S256x8192 .fp8e4m3) (harg8 : arg8.IsWhole) (arg9 : Memref sig .tc .vmem S256x1 .f32) (harg9 : arg9.IsWhole) (arg10 : Memref sig .tc .vmem S256x8192 .f32) (harg10 : arg10.IsWhole) (arg11 : Memref sig .tc .vmem S256x1 .f32) (harg11 : arg11.IsWhole)
    (hc0 : cond0 i) (hc1 : ¬cond1 i)
    (x0 : Vec F S256x8192 .bf16) (x1 x2 : Vec F S8192x512 .fp8e4m3) (x3 x4 : Vec F S1x512 .f32) (xi5 : Vec F S256x1 .f32) (xi6 : Vec F S256x8192 .fp8e4m3) (xc : Vec F S256x8192 .fp8e4m3) (xs : Vec F S256x1 .f32) (d : Vec F S256x8192 .f32) (a : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare d ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare (xCodes x0) ∗ owns (c : Thread nD τ) arg9 fullShare (xScales x0) ∗ owns (c : Thread nD τ) arg10 fullShare (hPut i d (hBlock (xCodes x0) (xScales x0) x1 x2 x3 x4)) ∗ owns (c : Thread nD τ) arg11 fullShare (amaxNext (xCodes x0) (xScales x0) x1 x2 x3 x4 k0_pay12)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [owns_eq_rep]
  simp only [cc0_swiglu_gate_up_fp8_eq_skeleton]; unfold cc0_swiglu_gate_up_fp8_skel
  simp only [k0_part3_eq_skeleton, k0_part1_eq_skeleton]
  iintro ⟨H0, H1, H2, H3, H4, H5, H6, H7, H8, HS0, HS1, Hk⟩
  sl_exec (disch := first | sl_exact hc0 | sl_exact hc1)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [← owns_eq_rep]; unfold owns; iexists _; isplitr
    swap; · iexact H7
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [H8]
  · rw [← owns_eq_rep]; unfold owns; iexists _; isplitr
    swap; · iexact H8
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [HS0]
  · rw [← owns_eq_rep]; unfold owns; iexists _; isplitr
    swap; · iexact HS0
    ipureintro
    sl_unfold_run_names; simp only [read_full_S256x1, read_full_S256x8192, readCov_full_S256x1, readCov_full_S256x8192, readAt_S256x1, readAt_S256x8192, readAt_S8192x512, readAt_S1x512, read_put, View.read_rep]; rfl
  rw [← owns_eq_rep]; unfold owns; iexists _; isplitr
  swap; · iexact HS1
  ipureintro
  sl_unfold_run_names; simp only [read_full_S256x1, read_full_S256x8192, readCov_full_S256x1, readCov_full_S256x8192, readAt_S256x1, readAt_S256x8192, readAt_S8192x512, readAt_S1x512, read_put, View.read_rep]; rfl

/-- At a middle point: one more block of h. -/
theorem body_middle (c : Dev nD) (i : grid0.Coords) (arg1 : Memref sig .tc .vmem S256x8192 .bf16) (harg1 : arg1.IsWhole) (arg2 : Memref sig .tc .vmem S8192x512 .fp8e4m3) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .vmem S256x8192 .fp8e4m3) (harg7 : arg7.IsWhole) (arg8 : Memref sig .tc .vmem S256x8192 .fp8e4m3) (harg8 : arg8.IsWhole) (arg9 : Memref sig .tc .vmem S256x1 .f32) (harg9 : arg9.IsWhole) (arg10 : Memref sig .tc .vmem S256x8192 .f32) (harg10 : arg10.IsWhole) (arg11 : Memref sig .tc .vmem S256x1 .f32) (harg11 : arg11.IsWhole)
    (hc0 : ¬cond0 i) (hc1 : ¬cond1 i)
    (x0 : Vec F S256x8192 .bf16) (x1 x2 : Vec F S8192x512 .fp8e4m3) (x3 x4 : Vec F S1x512 .f32) (xi5 : Vec F S256x1 .f32) (xi6 : Vec F S256x8192 .fp8e4m3) (xc : Vec F S256x8192 .fp8e4m3) (xs : Vec F S256x1 .f32) (d : Vec F S256x8192 .f32) (a : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare d ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare (hPut i d (hBlock xc xs x1 x2 x3 x4)) ∗ owns (c : Thread nD τ) arg11 fullShare (amaxNext xc xs x1 x2 x3 x4 a)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [owns_eq_rep]
  simp only [cc0_swiglu_gate_up_fp8_eq_skeleton]; unfold cc0_swiglu_gate_up_fp8_skel
  simp only [k0_part3_eq_skeleton]
  iintro ⟨H0, H1, H2, H3, H4, H5, H6, H7, H8, HS0, HS1, Hk⟩
  sl_exec (disch := first | sl_exact hc0 | sl_exact hc1)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]
  · rw [← owns_eq_rep]; unfold owns; iexists _; isplitr
    swap; · iexact HS0
    ipureintro
    sl_unfold_run_names; simp only [read_full_S256x1, read_full_S256x8192, readCov_full_S256x1, readCov_full_S256x8192, readAt_S256x1, readAt_S256x8192, readAt_S8192x512, readAt_S1x512, read_put, View.read_rep]; rfl
  rw [← owns_eq_rep]; unfold owns; iexists _; isplitr
  swap; · iexact HS1
  ipureintro
  sl_unfold_run_names; simp only [read_full_S256x1, read_full_S256x8192, readCov_full_S256x1, readCov_full_S256x8192, readAt_S256x1, readAt_S256x8192, readAt_S8192x512, readAt_S1x512, read_put, View.read_rep]; rfl

/-- At the last point: the last block of h, then h is quantised. -/
theorem body_last (c : Dev nD) (i : grid0.Coords) (arg1 : Memref sig .tc .vmem S256x8192 .bf16) (harg1 : arg1.IsWhole) (arg2 : Memref sig .tc .vmem S8192x512 .fp8e4m3) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S256x1 .f32) (harg6 : arg6.IsWhole) (arg7 : Memref sig .tc .vmem S256x8192 .fp8e4m3) (harg7 : arg7.IsWhole) (arg8 : Memref sig .tc .vmem S256x8192 .fp8e4m3) (harg8 : arg8.IsWhole) (arg9 : Memref sig .tc .vmem S256x1 .f32) (harg9 : arg9.IsWhole) (arg10 : Memref sig .tc .vmem S256x8192 .f32) (harg10 : arg10.IsWhole) (arg11 : Memref sig .tc .vmem S256x1 .f32) (harg11 : arg11.IsWhole)
    (hc0 : ¬cond0 i) (hc1 : cond1 i)
    (x0 : Vec F S256x8192 .bf16) (x1 x2 : Vec F S8192x512 .fp8e4m3) (x3 x4 : Vec F S1x512 .f32) (xi5 : Vec F S256x1 .f32) (xi6 : Vec F S256x8192 .fp8e4m3) (xc : Vec F S256x8192 .fp8e4m3) (xs : Vec F S256x1 .f32) (d : Vec F S256x8192 .f32) (a : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xc ∗ owns (c : Thread nD τ) arg9 fullShare xs ∗ owns (c : Thread nD τ) arg10 fullShare d ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (hScales (amaxNext xc xs x1 x2 x3 x4 a)) ∗ owns (c : Thread nD τ) arg7 fullShare (hCodes (amaxNext xc xs x1 x2 x3 x4 a) (hPut i d (hBlock xc xs x1 x2 x3 x4))) ∗ owns (c : Thread nD τ) arg8 fullShare xc ∗ owns (c : Thread nD τ) arg9 fullShare xs ∗ owns (c : Thread nD τ) arg10 fullShare (hPut i d (hBlock xc xs x1 x2 x3 x4)) ∗ owns (c : Thread nD τ) arg11 fullShare (amaxNext xc xs x1 x2 x3 x4 a)) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10 arg11 harg11) K := by
  simp only [owns_eq_rep]
  simp only [cc0_swiglu_gate_up_fp8_eq_skeleton]; unfold cc0_swiglu_gate_up_fp8_skel
  simp only [k0_part3_eq_skeleton, k0_part2_eq_skeleton]
  iintro ⟨H0, H1, H2, H3, H4, H5, H6, H7, H8, HS0, HS1, Hk⟩
  sl_exec (disch := first | sl_exact hc0 | sl_exact hc1)
  sl_step
  iapply Hk
  isplitl [H0]; · iexact H0
  isplitl [H1]; · iexact H1
  isplitl [H2]; · iexact H2
  isplitl [H3]; · iexact H3
  isplitl [H4]; · iexact H4
  isplitl [H5]
  · rw [← owns_eq_rep]; unfold owns; iexists _; isplitr
    swap; · iexact H5
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [H6]
  · rw [← owns_eq_rep]; unfold owns; iexists _; isplitr
    swap; · iexact H6
    ipureintro
    sl_unfold_run_names; simp only [read_full_S256x1, read_full_S256x8192, readCov_full_S256x1, readCov_full_S256x8192, readAt_S256x1, readAt_S256x8192, readAt_S8192x512, readAt_S1x512, read_put, View.read_rep]; rfl
  isplitl [H7]; · iexact H7
  isplitl [H8]; · iexact H8
  isplitl [HS0]
  · rw [← owns_eq_rep]; unfold owns; iexists _; isplitr
    swap; · iexact HS0
    ipureintro
    sl_unfold_run_names; simp only [read_full_S256x1, read_full_S256x8192, readCov_full_S256x1, readCov_full_S256x8192, readAt_S256x1, readAt_S256x8192, readAt_S8192x512, readAt_S1x512, read_put, View.read_rep]; rfl
  rw [← owns_eq_rep]; unfold owns; iexists _; isplitr
  swap; · iexact HS1
  ipureintro
  sl_unfold_run_names; simp only [read_full_S256x1, read_full_S256x8192, readCov_full_S256x1, readCov_full_S256x8192, readAt_S256x1, readAt_S256x8192, readAt_S8192x512, readAt_S1x512, read_put, View.read_rep]; rfl

end Cert.Kernel.Hand

end
-- ==== Proof.KRun.lean ====
/- The kernel's run: what every buffer holds between two points, the body obligation at every point, the launch,
   and the frame. -/
module

public import proofs.«01_k».proof.Proof.KBody
public import Idealize.ShloMosaic.Lib.WordCmp
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first branch is taken at the first point only. -/
theorem hcond0 (t : Fin cfg0.N) : cond0 (grid0.coords t) ↔ t.val = 0 := by
  have ht : t.val < 16 := Nat.lt_of_lt_of_eq t.isLt N_0
  have h : ∀ t : Fin grid0.N, cond0 (grid0.coords t) ↔ t.val = 0 := by
    decide +kernel
  exact h t

/-- The second branch is taken at the last point only. -/
theorem hcond1 (t : Fin cfg0.N) : cond1 (grid0.coords t) ↔ t.val = 15 := by
  have h : ∀ t : Fin grid0.N, cond1 (grid0.coords t) ↔ t.val = 15 := by
    decide +kernel
  exact h t

/-- At point `t` the block of h is stored from column `512 * t` on. -/
theorem off_eq (t : Fin cfg0.N) : k0_off1 (grid0.coords t) = ![0, 512 * t.val] := by
  have h : ∀ t : Fin grid0.N, k0_off1 (grid0.coords t) = ![0, 512 * t.val] := by decide +kernel
  exact h t

/-- The outputs of h are idle before the last point, -/
theorem idle5 (t : Fin cfg0.N) (h : t.val ≠ 15) : cfg0.idle 5 (grid0.coords t) = true := by
  have h' : ∀ t : Fin grid0.N, t.val ≠ 15 → cfg0.idle 5 (grid0.coords t) = true := by decide +kernel
  exact h' t h
theorem idle6 (t : Fin cfg0.N) (h : t.val ≠ 15) : cfg0.idle 6 (grid0.coords t) = true := by
  have h' : ∀ t : Fin grid0.N, t.val ≠ 15 → cfg0.idle 6 (grid0.coords t) = true := by decide +kernel
  exact h' t h
/-- and stored at the last. -/
theorem live5 (t : Fin cfg0.N) (h : t.val = 15) : cfg0.idle 5 (grid0.coords t) = false := by
  have h' : ∀ t : Fin grid0.N, t.val = 15 → cfg0.idle 5 (grid0.coords t) = false := by decide +kernel
  exact h' t h
theorem live6 (t : Fin cfg0.N) (h : t.val = 15) : cfg0.idle 6 (grid0.coords t) = false := by
  have h' : ∀ t : Fin grid0.N, t.val = 15 → cfg0.idle 6 (grid0.coords t) = false := by decide +kernel
  exact h' t h
/-- The outputs of x are stored at the first point, -/
theorem live7 (t : Fin cfg0.N) (h : t.val = 0) : cfg0.idle 7 (grid0.coords t) = false := by
  have h' : ∀ t : Fin grid0.N, t.val = 0 → cfg0.idle 7 (grid0.coords t) = false := by decide +kernel
  exact h' t h
theorem live8 (t : Fin cfg0.N) (h : t.val = 0) : cfg0.idle 8 (grid0.coords t) = false := by
  have h' : ∀ t : Fin grid0.N, t.val = 0 → cfg0.idle 8 (grid0.coords t) = false := by decide +kernel
  exact h' t h
/-- and idle after it. -/
theorem idle7 (t : Fin cfg0.N) (h : t.val ≠ 0) : cfg0.idle 7 (grid0.coords t) = true := by
  have h' : ∀ t : Fin grid0.N, t.val ≠ 0 → cfg0.idle 7 (grid0.coords t) = true := by decide +kernel
  exact h' t h
theorem idle8 (t : Fin cfg0.N) (h : t.val ≠ 0) : cfg0.idle 8 (grid0.coords t) = true := by
  have h' : ∀ t : Fin grid0.N, t.val ≠ 0 → cfg0.idle 8 (grid0.coords t) = true := by decide +kernel
  exact h' t h

/-- No output is written back before the last point. -/
theorem noFlush (w : Fin cfg0.W) (hw : ∀ t : Fin cfg0.N, (cfg0.win w).flush t = true ↔ t.val % 16 = 15) (t : Fin cfg0.N) (h : t.val ≠ 15) :
    (cfg0.win w).flush t = false := by
  have ht : t.val < 16 := Nat.lt_of_lt_of_eq t.isLt N_0
  rw [Bool.eq_false_iff]; intro h'; have := (hw t).mp h'; omega

/-- Every output is written back at the last. -/
theorem doFlush (w : Fin cfg0.W) (hw : ∀ t : Fin cfg0.N, (cfg0.win w).flush t = true ↔ t.val % 16 = 15) (t : Fin cfg0.N) (h : t.val = 15) :
    (cfg0.win w).flush t = true := (hw t).mpr (by omega)

/-- The outputs of x hold nothing of the body's at the first point only (7), -/
theorem fresh7 (n : ℕ) (hn : n < cfg0.N) : cfg0.fresh 7 n = (n == 0 || n == 16) :=
  cfg0.fresh_tab 7 (fun n => n == 0 || n == 16) rfl (by decide +kernel) n hn.le
/-- likewise (8). -/
theorem fresh8 (n : ℕ) (hn : n < cfg0.N) : cfg0.fresh 8 n = (n == 0 || n == 16) :=
  cfg0.fresh_tab 8 (fun n => n == 0 || n == 16) rfl (by decide +kernel) n hn.le

/-! ## What the buffers hold -/

/-- The first point. -/
def pt0 : Fin cfg0.N := ⟨0, by rw [show cfg0.N = 16 from N_0]; decide⟩

/-- The codes of x. -/
def XC (c : Dev nD) : Vec F S256x8192 .fp8e4m3 := xCodes (iblk m c 0 pt0)

/-- The scales of x. -/
def XS (c : Dev nD) : Vec F S256x1 .f32 := xScales (iblk m c 0 pt0)

/-- The block of h computed at point `t`. -/
def HB (c : Dev nD) (t : Fin cfg0.N) : Vec F S256x512 .f32 := hBlock (XC m c) (XS m c) (iblk m c 1 t) (iblk m c 2 t) (iblk m c 3 t) (iblk m c 4 t)

/-- The rows' running maxima before point `n`. -/
def AM (c : Dev nD) : ℕ → Vec F S256x1 .f32
  | 0 => k0_pay12
  | n + 1 => if h : n < cfg0.N then amaxNext (XC m c) (XS m c) (iblk m c 1 ⟨n, h⟩) (iblk m c 2 ⟨n, h⟩) (iblk m c 3 ⟨n, h⟩) (iblk m c 4 ⟨n, h⟩) (AM c n) else AM c n

theorem AM_succ (c : Dev nD) (t : Fin cfg0.N) :
    AM m c (t.val + 1) = amaxNext (XC m c) (XS m c) (iblk m c 1 t) (iblk m c 2 t) (iblk m c 3 t) (iblk m c 4 t) (AM m c t.val) := by
  rw [AM, dif_pos t.isLt]

/-- The point that computes column `j` of h. -/
def colPt (j : ℕ) (hj : j < 8192) : Fin cfg0.N := ⟨j / 512, by rw [show cfg0.N = 16 from N_0]; omega⟩

/-- An index of h within its block. -/
def colIdx (ix : S256x8192.Idx) : S256x512.Idx := fun a => match a with
  | ⟨0, _⟩ => ⟨(ix 0).val, (ix 0).isLt⟩
  | ⟨1, _⟩ => ⟨(ix 1).val % 512, Nat.mod_lt _ (by decide)⟩

/-- The whole of h: each column from the point that computes it. -/
def HH (c : Dev nD) : Vec F S256x8192 .f32 := fun ix => HB m c (colPt (ix 1).val (ix 1).isLt) (colIdx ix)

/-- `d` holds h in the columns computed before point `n`. -/
def HeldUpTo (c : Dev nD) (n : ℕ) (d : Vec F S256x8192 .f32) : Prop := ∀ ix : S256x8192.Idx, (ix 1).val < 512 * n → d ix = HH m c ix

/-- Storing the block of point `t` extends the columns held by 512. -/
theorem held_put (c : Dev nD) (t : Fin cfg0.N) (d : Vec F S256x8192 .f32) (h : HeldUpTo m c t.val d) :
    HeldUpTo m c (t.val + 1) (hPut (grid0.coords t) d (HB m c t)) := by
  intro ix hix
  unfold hPut
  rw [off_eq]
  by_cases hlo : (ix 1).val < 512 * t.val
  · refine Eq.trans ?_ (h ix hlo)
    refine dif_neg fun hall => ?_
    have h1 := (hall 1).1
    have e : (![0, 512 * t.val] : Fin 2 → ℕ) 1 = 512 * t.val := rfl
    rw [e] at h1
    omega
  · have h0 : (ix 0).val < 256 := (ix 0).isLt
    have hm : ∀ a, (![0, 512 * t.val] : Fin 2 → ℕ) a ≤ (ix a).val ∧ (ix a).val < (![0, 512 * t.val] : Fin 2 → ℕ) a + S256x512.size a := by
      intro a
      match a with
      | ⟨0, _⟩ => exact ⟨Nat.zero_le _, by show (ix 0).val < 0 + 256; omega⟩
      | ⟨1, _⟩ => exact ⟨by show 512 * t.val ≤ (ix 1).val; omega, by show (ix 1).val < 512 * t.val + 512; omega⟩
    refine (dif_pos hm).trans ?_
    have ht : colPt (ix 1).val (ix 1).isLt = t := Fin.ext (by show (ix 1).val / 512 = t.val; omega)
    unfold HH
    rw [ht]
    refine congrArg (HB m c t) (funext fun a => Fin.ext ?_)
    match a with
    | ⟨0, _⟩ => show (ix 0).val - 0 = (ix 0).val; omega
    | ⟨1, _⟩ => show (ix 1).val - 512 * t.val = (ix 1).val % 512; omega

/-- After the last point every column is held. -/
theorem held_all (c : Dev nD) (d : Vec F S256x8192 .f32) (h : HeldUpTo m c 16 d) : d = HH m c :=
  funext fun ix => h ix (by have : (ix 1).val < 8192 := (ix 1).isLt; omega)

/-- What is held before any point is no condition. -/
theorem held_zero (c : Dev nD) (d : Vec F S256x8192 .f32) : HeldUpTo m c 0 d := fun ix h => absurd h (by omega)

/-! ## The proof data -/

abbrev scM0_0 : Memref sig .tc .vmem S256x8192 .f32 := Memref.whole cc0_scratch0
abbrev scM0_1 : Memref sig .tc .vmem S256x1 .f32 := Memref.whole cc0_scratch1

/-- The invariant before point `n`: the scratch of h holds the columns computed so far; the scratch of the maxima holds
    the running maxima, once the first point has passed; the generator register is at some state. -/
def PhiS (c : Dev nD) (n : ℕ) : sProp 𝕄 :=
  iprop(∃ (d : Vec F S256x8192 .f32) (a : Vec F S256x1 .f32), ⌜HeldUpTo m c n d ∧ (n ≠ 0 → a = AM m c n)⌝
    ∗ owns (c : Thread nD τ) scM0_0 fullShare d ∗ owns (c : Thread nD τ) scM0_1 fullShare a ∗ (∃ r, prngReg c r))

/-- The class's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the pipeline on core `c`: after every point the inputs' buffers hold their blocks, the outputs'
    the codes and scales of h and of x. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hScales (AM m c 16)
    | ⟨6, _⟩ => hCodes (AM m c 16) (HH m c)
    | ⟨7, _⟩ => XC m c
    | ⟨8, _⟩ => XS m c
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hScales (AM m c 16) := by dsimp only [dats]
theorem after6 (c : Dev nD) (t : Fin cfg0.N) : (dats m 0 c).after 6 t = hCodes (AM m c 16) (HH m c) := by dsimp only [dats]
theorem after7 (c : Dev nD) (t : Fin cfg0.N) : (dats m 0 c).after 7 t = XC m c := by dsimp only [dats]
theorem after8 (c : Dev nD) (t : Fin cfg0.N) : (dats m 0 c).after 8 t = XS m c := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- After the first point the buffer of the codes of x holds them, -/
theorem before7 (c : Dev nD) (t : Fin cfg0.N) (h : t.val ≠ 0) (d) : (dats m 0 c).before 7 t d = XC m c := by
  have ht : t.val < 16 := Nat.lt_of_lt_of_eq t.isLt N_0
  rw [(dats m 0 c).before_out_traj 7 rfl (fun _ _ => rfl) (fun t _ _ _ => by rw [after7, after7]) t.val t rfl d, fresh7 _ t.isLt, after7]
  rw [if_neg]; simp; omega
/-- and that of the scales of x holds those. -/
theorem before8 (c : Dev nD) (t : Fin cfg0.N) (h : t.val ≠ 0) (d) : (dats m 0 c).before 8 t d = XS m c := by
  have ht : t.val < 16 := Nat.lt_of_lt_of_eq t.isLt N_0
  rw [(dats m 0 c).before_out_traj 8 rfl (fun _ _ => rfl) (fun t _ _ _ => by rw [after8, after8]) t.val t rfl d, fresh8 _ t.isLt, after8]
  rw [if_neg]; simp; omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window the point stores into is left at its named contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- A window written back where it is idle is left at its named contents. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- The body at the first point. -/
theorem sound_first (c : Dev nD) (t : Fin cfg0.N) (h0 : t.val = 0) (h1 : t.val ≠ 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t rfl, leaves_live m c 1 t rfl, leaves_live m c 2 t rfl, leaves_live m c 3 t rfl, leaves_live m c 4 t rfl, after0, after1, after2, after3, after4]
  rw [Dat.leavesExact_idle _ 5 t (idle5 t h1) (noFlush 5 flush0_5 t h1), Dat.leavesExact_idle _ 6 t (idle6 t h1) (noFlush 6 flush0_6 t h1)]
  rw [leaves_live m c 7 t (live7 t h0), leaves_live m c 8 t (live8 t h0), after7, after8]
  unfold PhiS
  iintro ⟨⟨%d, %a, %hda, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : t = pt0 := Fin.ext h0
  iapply (body_first c (grid0.coords pt0) _ _ _ _ _ _ _ _ _ _ _ _ _ _ _ _ _ _ _ _ _ _ ((hcond0 pt0).mpr h0) (fun h => h1 ((hcond1 pt0).mp h)) (iblk m c 0 pt0) (iblk m c 1 pt0) (iblk m c 2 pt0) (iblk m c 3 pt0) (iblk m c 4 pt0) _ _ _ _ d a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists (hPut (grid0.coords pt0) d (HB m c pt0)), (AM m c (pt0.val + 1))
    isplitr
    · ipureintro; exact ⟨held_put m c pt0 d hda.1, fun _ => rfl⟩
    isplitl [HS0]; · iexact HS0
    isplitl [HS1]
    · rw [AM_succ]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

/-- The body at a middle point. -/
theorem sound_middle (c : Dev nD) (t : Fin cfg0.N) (h0 : t.val ≠ 0) (h1 : t.val ≠ 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t rfl, leaves_live m c 1 t rfl, leaves_live m c 2 t rfl, leaves_live m c 3 t rfl, leaves_live m c 4 t rfl, after0, after1, after2, after3, after4]
  rw [Dat.leavesExact_idle _ 5 t (idle5 t h1) (noFlush 5 flush0_5 t h1), Dat.leavesExact_idle _ 6 t (idle6 t h1) (noFlush 6 flush0_6 t h1)]
  rw [Dat.leavesExact_idle _ 7 t (idle7 t h0) (noFlush 7 flush0_7 t h1), Dat.leavesExact_idle _ 8 t (idle8 t h0) (noFlush 8 flush0_8 t h1)]
  simp only [before7 m c t h0, before8 m c t h0]
  unfold PhiS
  iintro ⟨⟨%d, %a, %hda, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : a = AM m c t.val := hda.2 h0
  iapply (body_middle c (grid0.coords t) _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) _ _ _ _ d (AM m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists (hPut (grid0.coords t) d (HB m c t)), (AM m c (t.val + 1))
    isplitr
    · ipureintro; exact ⟨held_put m c t d hda.1, fun _ => rfl⟩
    isplitl [HS0]; · iexact HS0
    isplitl [HS1]
    · rw [AM_succ]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

/-- The body at the last point. -/
theorem sound_last (c : Dev nD) (t : Fin cfg0.N) (h0 : t.val ≠ 0) (h1 : t.val = 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t rfl, leaves_live m c 1 t rfl, leaves_live m c 2 t rfl, leaves_live m c 3 t rfl, leaves_live m c 4 t rfl, after0, after1, after2, after3, after4]
  rw [leaves_live m c 5 t (live5 t h1), leaves_live m c 6 t (live6 t h1), after5, after6]
  rw [leaves_flush m c 7 t (idle7 t h0) (doFlush 7 flush0_7 t h1), leaves_flush m c 8 t (idle8 t h0) (doFlush 8 flush0_8 t h1), after7, after8]
  simp only [before7 m c t h0, before8 m c t h0]
  have hend : AM m c 16 = amaxNext (XC m c) (XS m c) (iblk m c 1 t) (iblk m c 2 t) (iblk m c 3 t) (iblk m c 4 t) (AM m c t.val) := by
    rw [← AM_succ, h1]
  have hfull : ∀ d, HeldUpTo m c t.val d → hPut (grid0.coords t) d (HB m c t) = HH m c := fun d hd => held_all m c _ (by
    have h := held_put m c t d hd; rw [h1] at h; exact h)
  unfold PhiS
  iintro ⟨⟨%d, %a, %hda, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : a = AM m c t.val := hda.2 h0
  iapply (body_last c (grid0.coords t) _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) _ _ _ _ d (AM m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists (hPut (grid0.coords t) d (HB m c t)), (AM m c (t.val + 1))
    isplitr
    · ipureintro; exact ⟨held_put m c t d hda.1, fun _ => rfl⟩
    isplitl [HS0]; · iexact HS0
    isplitl [HS1]
    · rw [AM_succ]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · rw [hend]; iexact H5
  isplitl [H6]
  · rw [hend, ← hfull d hda.1]; iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0 (by omega)
  · by_cases h1 : t.val = 15
    · exact sound_last m c t h0 h1
    · exact sound_middle m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d, HS0⟩, ⟨%a, HS1⟩⟩, Hg⟩
  iexists d, a
  isplitr
  · ipureintro; exact ⟨held_zero m c d, fun h => absurd rfl h⟩
  isplitl [HS0]; · iexact HS0
  isplitl [HS1]; · iexact HS1
  iexact Hg

/-- After the last point the invariant gives the scratch back: its contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%d, %a, -, HS0, HS1, Hg⟩
  isplitl [HS0 HS1]
  · isplitl [HS0]
    · iexists _; iexact HS0
    iexists _; iexact HS1
  iexact Hg

/-! ## The run and the frame -/

-- the launch theorem's implicit arguments are found by unifying its conclusion with this one
set_option backward.isDefEq.respectTransparency.types false in
/-- THE LAUNCH: every array of the pipeline ends at what the proof data say, and every semaphore counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: every execution terminates without a fault, the arguments end unchanged, and every semaphore counter
    reads zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.Exp.lean ====
/- The power-of-two exponent of a row, on the extended reals: the kernel counts the powers of two that a value reaches
   and builds 2^e from its bits; the reference takes the least exponent above the value and calls exp2. Both are `eOf`. -/
module

public import Idealize.ShloMosaic.PureOps.Ideal.Laws
public import Idealize.ShloMosaic.Lib.IndicatorCount

@[expose] public section

set_option maxRecDepth 16384

noncomputable section

namespace Cert.Exp

open Idealize.ShloMosaic

/-- The power of two 2^e. -/
def pw (e : ℤ) : EReal := (((2 : ℝ) ^ e : ℝ) : EReal)

/-- Powers of two are ordered as their exponents, -/
theorem pw_le (a b : ℤ) : pw a ≤ pw b ↔ a ≤ b := by
  unfold pw; rw [EReal.coe_le_coe_iff, zpow_le_zpow_iff_right₀ one_lt_two]

/-- strictly too, -/
theorem pw_lt (a b : ℤ) : pw a < pw b ↔ a < b := by
  rw [← not_le, pw_le, not_le]

/-- and below infinity. -/
theorem pw_lt_top (a : ℤ) : pw a < ⊤ := EReal.coe_lt_top _

/-- Base-two exponential of an integer. -/
theorem exp2_int (e : ℤ) : Ideal.exp2 ((e : ℝ) : EReal) = pw e := by
  rw [Ideal.exp2_coe]; unfold pw; congr 1; exact Real.rpow_intCast 2 e

/-- Eight million times 2^(n - 150). -/
theorem pow_split (n : ℤ) : (8388608 : ℝ) * (2 : ℝ) ^ (n - 150) = (2 : ℝ) ^ (n - 127) := by
  have h : (2 : ℝ) ^ (n - 127) = (2 : ℝ) ^ (23 : ℤ) * (2 : ℝ) ^ (n - 150) := by
    rw [← zpow_add₀ (two_ne_zero : (2 : ℝ) ≠ 0), show (23 : ℤ) + (n - 150) = n - 127 by ring]
  rw [h]
  norm_num

/-- The fields of the word with exponent field `n` and nothing else. -/
theorem pat_fields : ∀ n : Fin 255, 1 ≤ n.val →
    ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- That word denotes 2^(n - 127). -/
theorem ofBits_pat (n : ℕ) (h1 : 1 ≤ n) (h2 : n < 255) : Ideal.ofBits .f32 (BitVec.ofNat 32 n <<< 23) = pw ((n : ℤ) - 127) := by
  obtain ⟨e1, e2, e3⟩ := pat_fields ⟨n, h2⟩ h1
  dsimp only at e1 e2 e3
  unfold Ideal.ofBits Ideal.ieee
  simp only [e1, e2, e3, Nat.reduceAdd]
  rw [if_neg (by omega), if_neg (by omega)]
  unfold pw
  rw [EReal.coe_eq_coe_iff]
  rw [← pow_split, show (n : ℤ) - (2 ^ (8 - 1) - 1) - (23 : ℕ) = (n : ℤ) - 150 by norm_num; ring]
  simp

/-- One-bit or with one, -/
theorem ori_one (x : BitVec 1) : IntOp.ori 1#1 x = 1#1 := by revert x; decide

/-- with zero, -/
theorem ori_zero (x : BitVec 1) : IntOp.ori 0#1 x = x := by revert x; decide

/-- and the double negation. -/
theorem xori_xori (x : BitVec 1) : IntOp.xori (IntOp.xori x 1#1) 1#1 = x := by revert x; decide

theorem select_one {α : Type} (x y : α) : Scalar.select 1#1 x y = x := rfl

theorem select_zero {α : Type} (x y : α) : Scalar.select 0#1 x y = y := rfl

/-- The shift by 23 as the vector unit does it. -/
theorem shli_23 (x : BitVec 32) : IntOp.shli .vector x 23#32 = x <<< 23 := rfl

/-- The number of the powers 2^-126 … 2^125 that `t` reaches. -/
def cnt (t : EReal) : ℕ := (Finset.univ.filter fun k : Fin 252 => pw ((k.val : ℤ) - 126) ≤ t).card

theorem cnt_le (t : EReal) : cnt t ≤ 252 := (Finset.card_le_univ _).trans (by simp)

/-- `t` reaches exactly the first `cnt t` of them. -/
theorem reach_iff (t : EReal) (k : Fin 252) : pw ((k.val : ℤ) - 126) ≤ t ↔ k.val < cnt t := by
  have down : ∀ j k : Fin 252, j ≤ k → pw ((k.val : ℤ) - 126) ≤ t → pw ((j.val : ℤ) - 126) ≤ t := fun j k hjk h =>
    ((pw_le _ _).mpr (by have : j.val ≤ k.val := hjk; omega)).trans h
  constructor
  · intro h
    have : (Finset.Iic k).card ≤ cnt t := Finset.card_le_card fun j hj =>
      Finset.mem_filter.mpr ⟨Finset.mem_univ _, down j k (Finset.mem_Iic.mp hj) h⟩
    rw [Fin.card_Iic] at this
    omega
  · intro h
    by_contra hn
    have : cnt t ≤ (Finset.Iio k).card := Finset.card_le_card fun j hj => by
      rw [Finset.mem_Iio]
      by_contra hjk
      exact hn (down k j (not_lt.mp hjk) (Finset.mem_filter.mp hj).2)
    rw [Fin.card_Iio] at this
    omega

/-- The exponent: 0 below the least normal and at infinity, else the least `e` with `t < 2^e`, at most 126. -/
def eOf (t : EReal) : ℤ := if t < pw (-126) ∨ t = ⊤ then 0 else (cnt t : ℤ) - 126

/-- `t` reaches none of the powers exactly below the least. -/
theorem cnt_eq_zero (t : EReal) : cnt t = 0 ↔ t < pw (-126) := by
  have h := reach_iff t ⟨0, by decide⟩
  rw [show (((⟨0, by decide⟩ : Fin 252).val : ℤ) - 126) = -126 by norm_num] at h
  rw [← not_le, h]
  show _ ↔ ¬ 0 < cnt t
  omega

theorem eOf_range (t : EReal) : -126 ≤ eOf t ∧ eOf t ≤ 126 := by
  have := cnt_le t
  unfold eOf; split <;> omega

/-- The kernel's exponent word. -/
theorem word_eq (a t : EReal) (hat : a = 0 → t < pw (-126)) :
    Scalar.select (Ideal.cmp .oeq a (Ideal.ofBits .f32 0x00000000#32)) (0#32)
      (Scalar.select (IntOp.ori (IntOp.cmpi .eq (BitVec.ofNat 32 (cnt t)) 0#32)
          (IntOp.xori (IntOp.xori (BitVec.ofBool (decide (t = ⊤ ∨ t = ⊥))) 1#1) 1#1)) 0#32 (IntOp.subi (BitVec.ofNat 32 (cnt t)) 126#32))
      = BitVec.ofInt 32 (eOf t) := by
  rw [Ideal.ofBits_zero_f32]
  have hc := cnt_le t
  have hsub : IntOp.subi (BitVec.ofNat 32 (cnt t)) 126#32 = BitVec.ofInt 32 ((cnt t : ℤ) - 126) := by
    rw [show ((cnt t : ℤ) - 126) = (cnt t : ℤ) + (-126) by ring, BitVec.ofInt_add, BitVec.ofInt_natCast]
    show BitVec.ofNat 32 (cnt t) - 126#32 = _
    rw [BitVec.sub_eq_add_neg]
    congr 1
  by_cases ha : a = 0
  · have he : eOf t = 0 := by unfold eOf; rw [if_pos (Or.inl (hat ha))]
    rw [he, ha]
    rw [show Ideal.cmp .oeq (0 : EReal) 0 = 1#1 by simp [Ideal.cmp], select_one]; rfl
  · have h1 : Ideal.cmp .oeq a 0 = 0#1 := by simp [Ideal.cmp, ha]
    rw [h1, select_zero, xori_xori]
    by_cases hlow : t < pw (-126)
    · have he : eOf t = 0 := by unfold eOf; rw [if_pos (Or.inl hlow)]
      rw [he, (cnt_eq_zero t).mpr hlow]
      rw [show IntOp.cmpi .eq (BitVec.ofNat 32 0) 0#32 = 1#1 by decide, ori_one, select_one]; rfl
    · have hcz : cnt t ≠ 0 := fun h => hlow ((cnt_eq_zero t).mp h)
      have hbot : t ≠ ⊥ := fun h => hlow (by rw [h]; exact EReal.bot_lt_coe _)
      have hne : BitVec.ofNat 32 (cnt t) ≠ 0#32 := fun h => hcz (by
        have h' := congrArg BitVec.toNat h
        simp only [BitVec.toNat_ofNat] at h'
        omega)
      have h2 : IntOp.cmpi .eq (BitVec.ofNat 32 (cnt t)) 0#32 = 0#1 := by
        show BitVec.ofBool (BitVec.ofNat 32 (cnt t) == 0#32) = 0#1
        rw [beq_eq_false_iff_ne.mpr hne]; rfl
      rw [h2, hsub, ori_zero]
      by_cases ht : t = ⊤
      · have he : eOf t = 0 := by unfold eOf; rw [if_pos (Or.inr ht)]
        rw [he]
        rw [decide_eq_true (Or.inl ht)]; rfl
      · have he : eOf t = (cnt t : ℤ) - 126 := by unfold eOf; rw [if_neg (by tauto)]
        rw [he]
        rw [decide_eq_false (by tauto)]; rfl

/-- The kernel's 2^e, built from its bits, -/
theorem scale_eq (e : ℤ) (h : -126 ≤ e ∧ e ≤ 126) :
    Ideal.ofBits .f32 (IntOp.shli .vector (IntOp.addi 127#32 (BitVec.ofInt 32 e)) 23#32) = pw e := by
  have hw : IntOp.addi 127#32 (BitVec.ofInt 32 e) = BitVec.ofNat 32 (127 + e).toNat := by
    rw [← BitVec.ofInt_natCast (w := 32) (n := (127 + e).toNat), Int.toNat_of_nonneg (by omega), BitVec.ofInt_add]; rfl
  rw [hw, shli_23, ofBits_pat _ (by omega) (by omega)]
  congr 1; omega

/-- and its 2^-e. -/
theorem inv_eq (e : ℤ) (h : -126 ≤ e ∧ e ≤ 126) :
    Ideal.ofBits .f32 (IntOp.shli .vector (IntOp.addi 127#32 (IntOp.subi 0#32 (BitVec.ofInt 32 e))) 23#32) = pw (-e) := by
  have hw : IntOp.subi 0#32 (BitVec.ofInt 32 e) = BitVec.ofInt 32 (-e) := by
    rw [BitVec.ofInt_neg]; show 0#32 - _ = _; rw [BitVec.zero_sub]
  rw [hw, scale_eq _ (by omega)]

/-- The reference's least exponent. -/
theorem least_eq (t : EReal) (h : ¬ t < pw (-126)) (f : Fin 252 → EReal)
    (hf : ∀ k : Fin 252, f k = if t < pw ((k.val : ℤ) - 125) then ((((k.val : ℤ) - 125 : ℤ) : ℝ) : EReal) else (((126 : ℤ) : ℝ) : EReal)) :
    (Finset.univ : Finset (Fin 252)).fold min ⊤ f = ((((cnt t : ℤ) - 126 : ℤ) : ℝ) : EReal) := by
  have hc := cnt_le t
  have hcz : cnt t ≠ 0 := fun h' => h ((cnt_eq_zero t).mp h')
  have below : ∀ k : Fin 252, k.val + 1 < 252 → (t < pw ((k.val : ℤ) - 125) ↔ cnt t ≤ k.val + 1) := fun k hk => by
    have := reach_iff t ⟨k.val + 1, hk⟩
    rw [show ((((⟨k.val + 1, hk⟩ : Fin 252).val : ℕ) : ℤ) - 126) = (k.val : ℤ) - 125 by push_cast; ring] at this
    rw [← not_le, this]; exact not_lt
  have coe_le : ∀ a b : ℤ, a ≤ b → ((a : ℝ) : EReal) ≤ ((b : ℝ) : EReal) := fun a b hab => EReal.coe_le_coe_iff.mpr (by exact_mod_cast hab)
  apply le_antisymm
  · refine (Finset.fold_min_le _).mpr (Or.inr ⟨⟨cnt t - 1, by omega⟩, Finset.mem_univ _, ?_⟩)
    rw [hf]
    split
    · exact coe_le _ _ (by push_cast [Nat.cast_sub (show 1 ≤ cnt t by omega)]; omega)
    · rename_i hn
      refine coe_le _ _ ?_
      by_contra hlt
      exact hn ((below ⟨cnt t - 1, by omega⟩ (by show cnt t - 1 + 1 < 252; omega)).mpr (by show cnt t ≤ cnt t - 1 + 1; omega))
  · refine (Finset.le_fold_min _).mpr ⟨le_top, fun k _ => ?_⟩
    rw [hf]
    split
    · rename_i hlt
      refine coe_le _ _ ?_
      by_cases hk : k.val + 1 < 252
      · have := (below k hk).mp hlt; omega
      · omega
    · exact coe_le _ _ (by omega)

/-- One bit and zero is zero, -/
theorem zero_andi (b : BitVec 1) : IntOp.andi 0#1 b = 0#1 := by revert b; decide

/-- and one is the bit. -/
theorem one_andi (b : BitVec 1) : IntOp.andi 1#1 b = b := by revert b; decide

/-- The reference's exponent. -/
theorem ref_eq (t : EReal) (f : Fin 252 → EReal)
    (hf : ∀ k : Fin 252, f k = if t < pw ((k.val : ℤ) - 125) then ((((k.val : ℤ) - 125 : ℤ) : ℝ) : EReal) else (((126 : ℤ) : ℝ) : EReal)) :
    Scalar.select (IntOp.andi (Ideal.cmp .oge t (Ideal.ofBits .f32 0x00800000#32)) (Ideal.cmp .olt (max t (-t)) (Ideal.ofBits .f32 0x7F800000#32)))
      ((Finset.univ : Finset (Fin 252)).fold min (Ideal.ofBits .f32 0x7F800000#32) f) (Ideal.ofBits .f32 0x00000000#32)
      = ((eOf t : ℝ) : EReal) := by
  have e1 : Ideal.ofBits .f32 0x00800000#32 = pw (-126) := by
    have := ofBits_pat 1 (by decide) (by decide)
    rw [show BitVec.ofNat 32 1 <<< 23 = 0x00800000#32 from rfl] at this
    rw [this]; congr 1
  have e2 : Ideal.ofBits .f32 0x7F800000#32 = ⊤ := by simp [Ideal.ofBits, Ideal.ieee]
  rw [e1, e2, Ideal.ofBits_zero_f32]
  by_cases hlow : t < pw (-126)
  · have he : eOf t = 0 := by unfold eOf; rw [if_pos (Or.inl hlow)]
    rw [he, show Ideal.cmp .oge t (pw (-126)) = 0#1 from congrArg BitVec.ofBool (decide_eq_false (not_le.mpr hlow)), zero_andi, select_zero]
    simp
  · have h1 : Ideal.cmp .oge t (pw (-126)) = 1#1 := congrArg BitVec.ofBool (decide_eq_true (not_lt.mp hlow))
    have hbot : t ≠ ⊥ := fun h => hlow (by rw [h]; exact EReal.bot_lt_coe _)
    by_cases ht : t = ⊤
    · have he : eOf t = 0 := by unfold eOf; rw [if_pos (Or.inr ht)]
      rw [he, h1, one_andi, show Ideal.cmp .olt (max t (-t)) ⊤ = 0#1 by simp [Ideal.cmp, ht], select_zero]
      simp
    · have habs : max t (-t) < ⊤ :=
        max_lt (lt_top_iff_ne_top.mpr ht) (lt_top_iff_ne_top.mpr fun h => hbot (EReal.neg_eq_top_iff.mp h))
      have he : eOf t = (cnt t : ℤ) - 126 := by unfold eOf; rw [if_neg (by tauto)]
      rw [he, ← least_eq t hlow f hf, h1, one_andi, show Ideal.cmp .olt (max t (-t)) ⊤ = 1#1 from congrArg BitVec.ofBool (decide_eq_true habs), select_one]

end Cert.Exp

end
-- ==== Proof.Row.lean ====
/- What both programs compute per row, on the extended reals: the largest absolute value, the clipping of a code, the gated
   product; and a column broadcast along its rows. -/
module

public import proofs.«01_k».proof.Proof.Exp
public import Idealize.ShloMosaic.Lib.ValueLayout

@[expose] public section

set_option maxRecDepth 16384

noncomputable section

namespace Cert.Exp

open Idealize.ShloMosaic Idealize.ShloMosaic.ValueIdx

/-- The constant 1/448, as rounded. -/
def cr : EReal := Ideal.ofBits .f32 0x3B124925#32

/-- Powers of two are positive. -/
theorem pw_pos (e : ℤ) : 0 < pw e := by
  unfold pw; exact EReal.coe_pos.mpr (by positivity)

/-- The largest absolute value of a row. -/
def rowMax {n : ℕ} (f : Fin n → EReal) : EReal := (Finset.univ : Finset (Fin n)).fold max ⊥ fun k => max (f k) (-(f k))

/-- A value clipped to the range of the codes. -/
def clip (x : EReal) : EReal := min (Ideal.ofBits .f32 0x43E00000#32) (max (Ideal.ofBits .f32 0xC3E00000#32) x)

/-- The gate's silu times the up projection. -/
def swiglu (g u : EReal) : EReal := g * Ideal.logistic g * u

/-- An absolute value is not negative. -/
theorem abs_nonneg' (x : EReal) : 0 ≤ max x (-x) := by
  rcases le_total 0 x with h | h
  · exact le_max_of_le_left h
  · exact le_max_of_le_right (by rw [EReal.le_neg]; simpa using h)

/-- A bound of a row's largest absolute value bounds every element. -/
theorem rowMax_le {n : ℕ} (f : Fin n → EReal) (b : EReal) : rowMax f ≤ b ↔ ∀ k, max (f k) (-(f k)) ≤ b := by
  unfold rowMax
  rw [Finset.fold_max_le]
  simp

/-- A column read at any place of its broadcast. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · omega
    · rfl
  | ⟨1, _⟩ => rfl

end Cert.Exp

end
-- ==== Proof.Spec.lean ====
/- The mathematics of both programs, as functions of a row and a column of the three arguments. -/
module

public import proofs.«01_k».proof.Proof.Row

@[expose] public section

set_option maxRecDepth 16384

noncomputable section

namespace Cert.Spec

open Idealize.ShloMosaic Idealize.ShloMosaic.ValueIdx Cert.Exp

/-- The three arguments as plain functions: the rows of x, -/
abbrev Rows := (⟨3, ![256, 1, 8192]⟩ : Shape).Idx → EReal
/-- the weights, -/
abbrev Weights := (⟨2, ![8192, 16384]⟩ : Shape).Idx → EReal
/-- and a scale for each column of the weights. -/
abbrev Scales := (⟨1, ![16384]⟩ : Shape).Idx → EReal

variable (x : Rows) (w : Weights) (s : Scales)

/-- The exponent of the scale of a row of x. -/
def xExp (i : Fin 256) : ℤ := eOf ((rowMax fun k : Fin 8192 => x (ix3 i 0 k)) * cr)

/-- The scale of a row of x. -/
def xScale (i : Fin 256) : EReal := pw (xExp x i)

/-- A code of x. -/
def xCode (i : Fin 256) (k : Fin 8192) : EReal := clip (x (ix3 i 0 k) * pw (-(xExp x i)))

/-- The scaled product of a row of x with a column of the weights. -/
def proj (i : Fin 256) (j : Fin 16384) : EReal := (∑ q : Fin 8192, xCode x i q * w (ix2 q j)) * xScale x i * s (ix1 j)

/-- The gated activation. -/
def act (i : Fin 256) (k : Fin 8192) : EReal :=
  swiglu (proj x w s i ⟨k.val, by omega⟩) (proj x w s i ⟨8192 + k.val, by omega⟩)

/-- The exponent of the scale of a row of the activation. -/
def hExp (i : Fin 256) : ℤ := eOf ((rowMax fun k : Fin 8192 => act x w s i k) * cr)

/-- The scale of a row of the activation. -/
def hScale (i : Fin 256) : EReal := pw (hExp x w s i)

/-- A code of the activation. -/
def hCode (i : Fin 256) (k : Fin 8192) : EReal := clip (act x w s i k * pw (-(hExp x w s i)))

end Cert.Spec

end
-- ==== Proof.KerPay.lean ====
/- The kernel's quantisation and its block of h, element by element, on the extended reals. -/
module

public import proofs.«01_k».proof.Proof.Body
public import proofs.«01_k».proof.Proof.Row
public import Idealize.ShloMosaic.Lib.ValueLayout
public import Idealize.ShloMosaic.Lib.ValueLayoutCasts
public import Idealize.ShloMosaic.Lib.ValueIdx

@[expose] public section

set_option maxRecDepth 16384

noncomputable section

namespace Cert.KernelIdeal.Hand

open Idealize.ShloMosaic Idealize.ShloMosaic.ValueIdx Cert.Exp
open Cert.KernelIdeal Cert.KernelIdeal.Gen

/-- The count of the powers a row's value reaches. -/
theorem count_apply (v : FVec Ideal S256x1 .f32) (i : Fin 256) (u : Fin 1) :
    shapeCast S256x1 (multiReductionI .add [1] S256 (extui 32 (cmpf .oge (broadcastTo S256x252 v broadcasts_S256x1_S256x252)
        (broadcastTo S256x252 (bitcastToFloat .f32 (shli (addi (broadcast S1x252 127#32) (subi (iota .tc S1x252 32 [1] iota_S1x252_d1_w32) (broadcast S1x252 126#32)))
          (broadcast S1x252 23#32)) : FVec Ideal S1x252 .f32) broadcasts_S1x252_S256x252)) natLt_1_32) 0#32 reduces_S256x252_S256 rfl) shapeCasts_S256_S256x1 (ix2 i u)
      = BitVec.ofNat 32 (cnt (v (ix2 i 0))) := by
  refine (shapeCast_a_a1_apply _ _ _ _).trans ?_
  refine (multiReductionI_eq_fold _ _ _ _ _ _).trans ?_
  refine (reduces_S256x252_S256.fold_filter_drop_single _ _ _ _).trans ?_
  refine (IndicatorCount.fold_addi_setWidth_eq_card _ _).trans ?_
  congr 1
  unfold cnt
  refine congrArg Finset.card (Finset.filter_congr fun k _ => ?_)
  revert k
  refine (?_ : ∀ k : Fin 252, _ → _)
  intro k _
  have hk : k.val < 252 := k.isLt
  rw [show reduces_S256x252_S256.lift (ix1 i) k = ix2 i k by
    funext d; match d with | ⟨0, _⟩ => rfl | ⟨1, _⟩ => rfl]
  rw [cmpf_apply, broadcastTo_a1_ab_apply, broadcastTo_1b_ab_apply]
  have hw : (bitcastToFloat .f32 (shli (addi (broadcast S1x252 127#32) (subi (iota .tc S1x252 32 [1] iota_S1x252_d1_w32) (broadcast S1x252 126#32)))
          (broadcast S1x252 23#32)) : FVec Ideal S1x252 .f32) (ix2 (0 : Fin 1) k) = pw ((k.val : ℤ) - 126) := by
    refine Eq.trans ?_ (scale_eq ((k.val : ℤ) - 126) (by omega))
    show Ideal.ofBits .f32 (IntOp.shli .vector (IntOp.addi 127#32 (IntOp.subi (iota .tc S1x252 32 [1] iota_S1x252_d1_w32 (ix2 (0 : Fin 1) k)) 126#32)) 23#32) = _
    rw [iota_single_apply]
    rw [show IntOp.subi (BitVec.ofNat 32 ((ix2 (0 : Fin 1) k : S1x252.Idx) 1).val) 126#32 = BitVec.ofInt 32 ((k.val : ℤ) - 126) by
      rw [show ((k.val : ℤ) - 126) = (k.val : ℤ) + (-126) by ring, BitVec.ofInt_add, BitVec.ofInt_natCast]
      show BitVec.ofNat 32 k.val - 126#32 = _
      rw [BitVec.sub_eq_add_neg]
      congr 1]
  rw [hw]
  show BitVec.ofBool (decide (pw ((k.val : ℤ) - 126) ≤ v (ix2 i 0))) = 1#1 ↔ _
  by_cases hle : pw ((k.val : ℤ) - 126) ≤ v (ix2 i 0)
  · rw [decide_eq_true hle]; exact ⟨fun _ => hle, fun _ => rfl⟩
  · rw [decide_eq_false hle]; exact ⟨fun h => absurd h (by decide), fun h => absurd h hle⟩

/-- The exponent word of a row. -/
theorem word_apply (a : Vec Ideal S256x1 .f32) (i : Fin 256) (u : Fin 1) :
    k0_pay7 (F := Ideal) a (ix2 i u) = BitVec.ofInt 32 (eOf (a (ix2 i 0) * cr)) := by
  obtain rfl : u = 0 := Subsingleton.elim _ _
  refine Eq.trans ?_ (word_eq (a (ix2 i 0)) (a (ix2 i 0) * cr) fun h => by rw [h, zero_mul]; exact pw_pos _)
  have hc := count_apply (mulf a (broadcast S256x1 cr)) i 0
  rw [show (mulf a (broadcast S256x1 cr) : FVec Ideal S256x1 .f32) (ix2 i 0) = (a (ix2 i 0) * cr : EReal) from rfl] at hc
  rw [← hc]
  rfl

/-- The word is the exponent's of the row's largest absolute value, for x as for h. -/
theorem pay4_eq (x : Vec Ideal S256x8192 .bf16) : k0_pay4 (F := Ideal) x
    = k0_pay7 (shapeCast S256x1 (multiReduction .maximumf [1] S256 (absf (k0_pay3 x)) 0xFF800000#32 reduces_S256x8192_S256 (.inl rfl) rfl) shapeCasts_S256_S256x1) := rfl

/-- The largest absolute value of a row. -/
theorem amax_apply (v : FVec Ideal S256x8192 .f32) (i : Fin 256) (u : Fin 1) :
    shapeCast S256x1 (multiReduction .maximumf [1] S256 (absf v) 0xFF800000#32 reduces_S256x8192_S256 (.inl rfl) rfl) shapeCasts_S256_S256x1 (ix2 i u)
      = rowMax fun k : Fin 8192 => v (ix2 i k) := by
  rw [shapeCast_a_a1_apply]
  refine (Ideal.multiReduction_maximumf_single _ _ _ _ _ _).trans ?_
  unfold rowMax
  rw [show FloatOps.ofBits (F := Ideal) .f32 0xFF800000#32 = (⊥ : EReal) from by simp [Ideal.ofBits, Ideal.ieee]]
  congr 1
  funext k
  show max (v _) (-(v _)) = _
  rw [show reduces_S256x8192_S256.lift (ix1 i) k = ix2 i k by
    funext d; match d with | ⟨0, _⟩ => rfl | ⟨1, _⟩ => rfl]
  rfl

/-- The same over a block. -/
theorem amaxBlock_apply (v : FVec Ideal S256x512 .f32) (i : Fin 256) (u : Fin 1) :
    shapeCast S256x1 (multiReduction .maximumf [1] S256 (absf v) 0xFF800000#32 reduces_S256x512_S256 (.inl rfl) rfl) shapeCasts_S256_S256x1 (ix2 i u)
      = rowMax fun k : Fin 512 => v (ix2 i k) := by
  rw [shapeCast_a_a1_apply]
  refine (Ideal.multiReduction_maximumf_single _ _ _ _ _ _).trans ?_
  unfold rowMax
  rw [show FloatOps.ofBits (F := Ideal) .f32 0xFF800000#32 = (⊥ : EReal) from by simp [Ideal.ofBits, Ideal.ieee]]
  congr 1
  funext k
  show max (v _) (-(v _)) = _
  rw [show reduces_S256x512_S256.lift (ix1 i) k = ix2 i k by
    funext d; match d with | ⟨0, _⟩ => rfl | ⟨1, _⟩ => rfl]
  rfl

/-- The scale of a row of h. -/
theorem hScales_apply (a : Vec Ideal S256x1 .f32) (i : Fin 256) (u : Fin 1) :
    hScales a (ix2 i u) = pw (eOf (a (ix2 i 0) * cr)) := by
  show Ideal.ofBits .f32 (IntOp.shli .vector (IntOp.addi 127#32 (k0_pay7 a (ix2 i u))) 23#32) = _
  rw [word_apply, scale_eq _ (eOf_range _)]

/-- A code of h. -/
theorem hCodes_apply (a : Vec Ideal S256x1 .f32) (h : Vec Ideal S256x8192 .f32) (i : Fin 256) (k : Fin 8192) :
    hCodes a h (ix2 i k) = clip (h (ix2 i k) * pw (-(eOf (a (ix2 i 0) * cr)))) := by
  show min _ (max _ (h (ix2 i k) * broadcastTo S256x8192 (bitcastToFloat .f32 (shli (k0_pay9 a) k0_pay10) : FVec Ideal S256x1 .f32) broadcasts_S256x1_S256x8192 (ix2 i k))) = _
  rw [broadcastTo_a1_ab_apply]
  rw [show (bitcastToFloat .f32 (shli (k0_pay9 a) k0_pay10) : FVec Ideal S256x1 .f32) (ix2 i 0) = pw (-(eOf (a (ix2 i 0) * cr))) by
    show Ideal.ofBits .f32 (IntOp.shli .vector (IntOp.addi 127#32 (IntOp.subi 0#32 (k0_pay7 a (ix2 i 0)))) 23#32) = _
    rw [word_apply, inv_eq _ (eOf_range _)]]
  rfl

/-- Widening x changes nothing. -/
theorem pay3_eq (x : Vec Ideal S256x8192 .bf16) : k0_pay3 (F := Ideal) x = x := by
  unfold k0_pay3
  rw [shapeCast_self]
  rfl

/-- The scale of a row of x. -/
theorem xScales_apply (x : Vec Ideal S256x8192 .bf16) (i : Fin 256) (u : Fin 1) :
    xScales x (ix2 i u) = pw (eOf ((rowMax fun k : Fin 8192 => x (ix2 i k)) * cr)) := by
  show Ideal.ofBits .f32 (IntOp.shli .vector (IntOp.addi 127#32 (k0_pay4 x (ix2 i u))) 23#32) = _
  rw [pay4_eq, word_apply, scale_eq _ (eOf_range _), amax_apply]
  rw [pay3_eq]

/-- A code, from the value and the row's exponent. -/
theorem code_apply (v : FVec Ideal S256x8192 .f32) (w : IVec S256x1 32) (e : ℤ) (he : -126 ≤ e ∧ e ≤ 126) (i : Fin 256) (k : Fin 8192)
    (hw : w (ix2 i 0) = BitVec.ofInt 32 e) : k0_pay11 (F := Ideal) v w k0_pay6 (ix2 i k) = clip (v (ix2 i k) * pw (-e)) := by
  show min _ (max _ (v (ix2 i k) * broadcastTo S256x8192 (bitcastToFloat .f32 (shli (addi (broadcast S256x1 127#32) (subi (broadcast S256x1 0#32) w)) (broadcast S256x1 23#32)) : FVec Ideal S256x1 .f32) broadcasts_S256x1_S256x8192 (ix2 i k))) = _
  rw [broadcastTo_a1_ab_apply]
  rw [show (bitcastToFloat .f32 (shli (addi (broadcast S256x1 127#32) (subi (broadcast S256x1 0#32) w)) (broadcast S256x1 23#32)) : FVec Ideal S256x1 .f32) (ix2 i 0) = pw (-e) by
    show Ideal.ofBits .f32 (IntOp.shli .vector (IntOp.addi 127#32 (IntOp.subi 0#32 (w (ix2 i 0)))) 23#32) = _
    rw [hw, inv_eq _ he]]
  rfl

/-- A code of x. -/
theorem xCodes_apply (x : Vec Ideal S256x8192 .bf16) (i : Fin 256) (k : Fin 8192) :
    xCodes x (ix2 i k) = clip (x (ix2 i k) * pw (-(eOf ((rowMax fun k : Fin 8192 => x (ix2 i k)) * cr)))) := by
  unfold xCodes
  rw [code_apply _ _ (eOf ((rowMax fun k : Fin 8192 => x (ix2 i k)) * cr)) (eOf_range _) i k (by rw [pay4_eq, word_apply, amax_apply, pay3_eq]), pay3_eq]

/-- The dot of a row of codes with a column of a block of weights. -/
theorem dot_apply (l : FVec Ideal S256x8192 .fp8e4m3) (r : FVec Ideal S8192x512 .fp8e4m3) (i : Fin 256) (k : Fin 512) :
    matmul dot_S256x8192_S8192x512_S256x512_1_0_0_1_n_n none l r (constant S256x512 .f32 0x00000000#32) (ix2 i k)
      = ∑ q : Fin 8192, (l (ix2 i q) * r (ix2 q k) : EReal) := by
  refine (Ideal.matmul_constant_zero_apply dot_S256x8192_S8192x512_S256x512_1_0_0_1_n_n none l r (ix2 i k)).trans ?_
  refine Fintype.sum_equiv (contrEquiv1 dot_S256x8192_S8192x512_S256x512_1_0_0_1_n_n 8192 rfl rfl) _ _ fun q => ?_
  congr 1
  · congr 1; funext d; match d with | ⟨0, _⟩ => rfl | ⟨1, _⟩ => rfl
  · congr 1; funext d; match d with | ⟨0, _⟩ => rfl | ⟨1, _⟩ => rfl

/-- One element of a block of h. -/
theorem hBlock_apply (xc : Vec Ideal S256x8192 .fp8e4m3) (xs : Vec Ideal S256x1 .f32) (x1 x2 : Vec Ideal S8192x512 .fp8e4m3) (x3 x4 : Vec Ideal S1x512 .f32)
    (i : Fin 256) (k : Fin 512) :
    hBlock xc xs x1 x2 x3 x4 (ix2 i k)
      = swiglu ((∑ q : Fin 8192, (xc (ix2 i q) * x1 (ix2 q k) : EReal)) * xs (ix2 i 0) * x3 (ix2 0 k))
          ((∑ q : Fin 8192, (xc (ix2 i q) * x2 (ix2 q k) : EReal)) * xs (ix2 i 0) * x4 (ix2 0 k)) := by
  unfold hBlock k0_pay14 k0_pay13
  simp only [shapeCast_self]
  rw [← dot_apply, ← dot_apply, ← broadcastTo_a1_ab_apply xs broadcasts_S256x1_S256x512 i k,
    ← broadcastTo_1b_ab_apply x3 broadcasts_S1x512_S256x512 i k, ← broadcastTo_1b_ab_apply x4 broadcasts_S1x512_S256x512 i k]
  rfl

/-- The running maximum joins the block's. -/
theorem amaxNext_apply (xc : Vec Ideal S256x8192 .fp8e4m3) (xs : Vec Ideal S256x1 .f32) (x1 x2 : Vec Ideal S8192x512 .fp8e4m3) (x3 x4 : Vec Ideal S1x512 .f32)
    (a : Vec Ideal S256x1 .f32) (i : Fin 256) (u : Fin 1) :
    amaxNext xc xs x1 x2 x3 x4 a (ix2 i u) = max (a (ix2 i u)) (rowMax fun k : Fin 512 => hBlock xc xs x1 x2 x3 x4 (ix2 i k)) := by
  rw [← amaxBlock_apply _ i u]
  unfold amaxNext hBlock k0_pay1 k0_pay14 k0_pay15
  simp only [shapeCast_self]
  rfl

/-- The running maximum starts at zero. -/
theorem amaxZero_apply (i : Fin 256) (u : Fin 1) : (k0_pay12 (F := Ideal)) (ix2 i u) = (0 : EReal) := by
  unfold k0_pay12
  simp only [shapeCast_self]
  exact Ideal.ofBits_zero_f32

end Cert.KernelIdeal.Hand

end
-- ==== Proof.Value.lean ====
/- What the kernel leaves in its four result arrays, and what its input blocks are in terms of the three arguments. -/
module

public import proofs.«01_k».proof.Proof.Run
public import Idealize.ShloMosaic.Lib.Pipeline.Value
public import Idealize.ShloMosaic.Lib.ValueLayout

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The last point. -/
def pt15 : Fin cfg0.N := ⟨15, by rw [show cfg0.N = 16 from N_0]; decide⟩

/-! ### Output window 5 -/

/-- Its block index is zero at every point, -/
theorem idx_zero5 : ∀ t : Fin cfg0.N, win0_5.index t (0 : Fin 2) = 0 ∧ win0_5.index t (1 : Fin 2) = 0 :=
  (by decide +kernel : ∀ t : Fin grid0.N, _)

/-- so an index of its block is the same index of its array. -/
theorem emb5 (t : Fin cfg0.N) (j : S256x1.Idx) : ((cfg0.win 5).blk t).view.emb j = j := by
  obtain ⟨e0, e1⟩ := idx_zero5 t
  funext a; apply Fin.ext
  match a with
  | ⟨0, _⟩ => show win0_5.index t (0 : Fin 2) * 256 + 1 * (j 0).val = (j 0).val; omega
  | ⟨1, _⟩ => show win0_5.index t (1 : Fin 2) * 1 + 1 * (j 1).val = (j 1).val; omega

/-- Cutting the block out of an array and reading the array through the block's view give the same. -/
theorem cut5_eq (t : Fin cfg0.N) (X : Vec F S256x1 .f32) :
    (cfg0.win 5).cut (grid0.coords t) X = ((cfg0.win 5).blk t).view.read (Elt F) X := by
  funext j
  show X j = X (((cfg0.win 5).blk t).view.emb j)
  rw [emb5]

/-- Every index of the array is in the block of the last point, which is written back. -/
theorem covered5 (i : S256x1.Idx) : ∃ t : Fin cfg0.N, (cfg0.win 5).flush t = true ∧ i ∈ ((cfg0.win 5).blk t).view.set :=
  ⟨pt15, (flush0_5 _).mpr rfl, by have h := ((cfg0.win 5).blk pt15).view.emb_mem_set i; rwa [emb5] at h⟩

/-- The array after the run. -/
theorem final5 (c : Dev nD) : (dats m 0 c).arrAt 5 cfg0.N = hScales (AM m c 16) :=
  (dats m 0 c).arrAt_eq_of_cover 5 (hScales (AM m c 16)) (fun t _ => by
    show (cfg0.win 5).cut (grid0.coords t) ((dats m 0 c).after 5 t) = _
    rw [after5]
    exact cut5_eq t _) covered5

/-! ### Output window 6 -/

/-- Its block index is zero at every point, -/
theorem idx_zero6 : ∀ t : Fin cfg0.N, win0_6.index t (0 : Fin 2) = 0 ∧ win0_6.index t (1 : Fin 2) = 0 :=
  (by decide +kernel : ∀ t : Fin grid0.N, _)

/-- so an index of its block is the same index of its array. -/
theorem emb6 (t : Fin cfg0.N) (j : S256x8192.Idx) : ((cfg0.win 6).blk t).view.emb j = j := by
  obtain ⟨e0, e1⟩ := idx_zero6 t
  funext a; apply Fin.ext
  match a with
  | ⟨0, _⟩ => show win0_6.index t (0 : Fin 2) * 256 + 1 * (j 0).val = (j 0).val; omega
  | ⟨1, _⟩ => show win0_6.index t (1 : Fin 2) * 8192 + 1 * (j 1).val = (j 1).val; omega

/-- Cutting the block out of an array and reading the array through the block's view give the same. -/
theorem cut6_eq (t : Fin cfg0.N) (X : Vec F S256x8192 .fp8e4m3) :
    (cfg0.win 6).cut (grid0.coords t) X = ((cfg0.win 6).blk t).view.read (Elt F) X := by
  funext j
  show X j = X (((cfg0.win 6).blk t).view.emb j)
  rw [emb6]

/-- Every index of the array is in the block of the last point, which is written back. -/
theorem covered6 (i : S256x8192.Idx) : ∃ t : Fin cfg0.N, (cfg0.win 6).flush t = true ∧ i ∈ ((cfg0.win 6).blk t).view.set :=
  ⟨pt15, (flush0_6 _).mpr rfl, by have h := ((cfg0.win 6).blk pt15).view.emb_mem_set i; rwa [emb6] at h⟩

/-- The array after the run. -/
theorem final6 (c : Dev nD) : (dats m 0 c).arrAt 6 cfg0.N = hCodes (AM m c 16) (HH m c) :=
  (dats m 0 c).arrAt_eq_of_cover 6 (hCodes (AM m c 16) (HH m c)) (fun t _ => by
    show (cfg0.win 6).cut (grid0.coords t) ((dats m 0 c).after 6 t) = _
    rw [after6]
    exact cut6_eq t _) covered6

/-! ### Output window 7 -/

/-- Its block index is zero at every point, -/
theorem idx_zero7 : ∀ t : Fin cfg0.N, win0_7.index t (0 : Fin 2) = 0 ∧ win0_7.index t (1 : Fin 2) = 0 :=
  (by decide +kernel : ∀ t : Fin grid0.N, _)

/-- so an index of its block is the same index of its array. -/
theorem emb7 (t : Fin cfg0.N) (j : S256x8192.Idx) : ((cfg0.win 7).blk t).view.emb j = j := by
  obtain ⟨e0, e1⟩ := idx_zero7 t
  funext a; apply Fin.ext
  match a with
  | ⟨0, _⟩ => show win0_7.index t (0 : Fin 2) * 256 + 1 * (j 0).val = (j 0).val; omega
  | ⟨1, _⟩ => show win0_7.index t (1 : Fin 2) * 8192 + 1 * (j 1).val = (j 1).val; omega

/-- Cutting the block out of an array and reading the array through the block's view give the same. -/
theorem cut7_eq (t : Fin cfg0.N) (X : Vec F S256x8192 .fp8e4m3) :
    (cfg0.win 7).cut (grid0.coords t) X = ((cfg0.win 7).blk t).view.read (Elt F) X := by
  funext j
  show X j = X (((cfg0.win 7).blk t).view.emb j)
  rw [emb7]

/-- Every index of the array is in the block of the last point, which is written back. -/
theorem covered7 (i : S256x8192.Idx) : ∃ t : Fin cfg0.N, (cfg0.win 7).flush t = true ∧ i ∈ ((cfg0.win 7).blk t).view.set :=
  ⟨pt15, (flush0_7 _).mpr rfl, by have h := ((cfg0.win 7).blk pt15).view.emb_mem_set i; rwa [emb7] at h⟩

/-- The array after the run. -/
theorem final7 (c : Dev nD) : (dats m 0 c).arrAt 7 cfg0.N = XC m c :=
  (dats m 0 c).arrAt_eq_of_cover 7 (XC m c) (fun t _ => by
    show (cfg0.win 7).cut (grid0.coords t) ((dats m 0 c).after 7 t) = _
    rw [after7]
    exact cut7_eq t _) covered7

/-! ### Output window 8 -/

/-- Its block index is zero at every point, -/
theorem idx_zero8 : ∀ t : Fin cfg0.N, win0_8.index t (0 : Fin 2) = 0 ∧ win0_8.index t (1 : Fin 2) = 0 :=
  (by decide +kernel : ∀ t : Fin grid0.N, _)

/-- so an index of its block is the same index of its array. -/
theorem emb8 (t : Fin cfg0.N) (j : S256x1.Idx) : ((cfg0.win 8).blk t).view.emb j = j := by
  obtain ⟨e0, e1⟩ := idx_zero8 t
  funext a; apply Fin.ext
  match a with
  | ⟨0, _⟩ => show win0_8.index t (0 : Fin 2) * 256 + 1 * (j 0).val = (j 0).val; omega
  | ⟨1, _⟩ => show win0_8.index t (1 : Fin 2) * 1 + 1 * (j 1).val = (j 1).val; omega

/-- Cutting the block out of an array and reading the array through the block's view give the same. -/
theorem cut8_eq (t : Fin cfg0.N) (X : Vec F S256x1 .f32) :
    (cfg0.win 8).cut (grid0.coords t) X = ((cfg0.win 8).blk t).view.read (Elt F) X := by
  funext j
  show X j = X (((cfg0.win 8).blk t).view.emb j)
  rw [emb8]

/-- Every index of the array is in the block of the last point, which is written back. -/
theorem covered8 (i : S256x1.Idx) : ∃ t : Fin cfg0.N, (cfg0.win 8).flush t = true ∧ i ∈ ((cfg0.win 8).blk t).view.set :=
  ⟨pt15, (flush0_8 _).mpr rfl, by have h := ((cfg0.win 8).blk pt15).view.emb_mem_set i; rwa [emb8] at h⟩

/-- The array after the run. -/
theorem final8 (c : Dev nD) : (dats m 0 c).arrAt 8 cfg0.N = XS m c :=
  (dats m 0 c).arrAt_eq_of_cover 8 (XS m c) (fun t _ => by
    show (cfg0.win 8).cut (grid0.coords t) ((dats m 0 c).after 8 t) = _
    rw [after8]
    exact cut8_eq t _) covered8

/-! ## The run, read -/

/-- The run: each result array at its value, the arguments unchanged. -/
theorem run : θ_run defs (onTc (τ := τ) (main (F := F))) ⟨m, fun _ => 0, ρ⟩ fun r => ∀ c : Dev nD,
      r.2.mem ((c : Thread nD τ).loc main_v3_0) = hScales (AM m c 16)
      ∧ r.2.mem ((c : Thread nD τ).loc main_v3_1) = hCodes (AM m c 16) (HH m c)
      ∧ r.2.mem ((c : Thread nD τ).loc main_v3_2) = XC m c
      ∧ r.2.mem ((c : Thread nD τ).loc main_v3_3) = XS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 5).trans (final5 m c), ((h.1 c).1 6).trans (final6 m c),
      ((h.1 c).1 7).trans (final7 m c), ((h.1 c).1 8).trans (final8 m c), h.2 c⟩)
    (θ_run_and (run_main m ρ) (unchanged m ρ))

/-! ## The arrays and blocks the region reads -/

/-- x flattened to rows, -/
theorem V_v0 (c : Dev nD) : V m c main_v0 = shapeCast S256x8192 (m ((c : Thread nD τ).loc main_arg0)) shapeCasts_S256x1x8192_S256x8192 := by
  dsimp only [V, hostOps0, StableHlo.after, List.foldl]
  rfl

/-- the scales of the weights as one row, -/
theorem V_v1 (c : Dev nD) : V m c main_v1 = shapeCast S1x16384 (m ((c : Thread nD τ).loc main_arg2)) shapeCasts_S16384_S1x16384 := by
  dsimp only [V, hostOps0, StableHlo.after, List.foldl]
  rfl

/-- twice. -/
theorem V_v2 (c : Dev nD) : V m c main_v2 = shapeCast S1x16384 (m ((c : Thread nD τ).loc main_arg2)) shapeCasts_S16384_S1x16384 := by
  dsimp only [V, hostOps0, StableHlo.after, List.foldl]
  rfl

/-- The block indices of the inputs: x's is zero, -/
theorem in_idx0 : ∀ t : Fin cfg0.N, win0_0.index t (0 : Fin 2) = 0 ∧ win0_0.index t (1 : Fin 2) = 0 :=
  (by decide +kernel : ∀ t : Fin grid0.N, _)

/-- the gate's weights' is the point, -/
theorem in_idx1 : ∀ t : Fin cfg0.N, win0_1.index t (0 : Fin 2) = 0 ∧ win0_1.index t (1 : Fin 2) = t.val :=
  (by decide +kernel : ∀ t : Fin grid0.N, _)

/-- the up projection's lies sixteen further, -/
theorem in_idx2 : ∀ t : Fin cfg0.N, win0_2.index t (0 : Fin 2) = 0 ∧ win0_2.index t (1 : Fin 2) = 16 + t.val :=
  (by decide +kernel : ∀ t : Fin grid0.N, _)

/-- and so do the scales'. -/
theorem in_idx3 : ∀ t : Fin cfg0.N, win0_3.index t (0 : Fin 2) = 0 ∧ win0_3.index t (1 : Fin 2) = t.val :=
  (by decide +kernel : ∀ t : Fin grid0.N, _)

theorem in_idx4 : ∀ t : Fin cfg0.N, win0_4.index t (0 : Fin 2) = 0 ∧ win0_4.index t (1 : Fin 2) = 16 + t.val :=
  (by decide +kernel : ∀ t : Fin grid0.N, _)

/-- A flattened array read. -/
theorem flat_apply {e : EltTy} (v : Vec F S256x1x8192 e) (i : Fin 256) (k : Fin 8192) :
    shapeCast S256x8192 v shapeCasts_S256x1x8192_S256x8192 (ix2 i k) = v (ix3 i 0 k) := by
  refine shapeCast_apply _ _ _ _ ?_
  rw [Shape.rowMajor_val_two, Shape.rowMajor_val_three]
  show (i.val * 1 + 0) * 8192 + k.val = i.val * 8192 + k.val
  omega

/-- The block of x is x. -/
theorem iblk0_apply (c : Dev nD) (t : Fin cfg0.N) (i : Fin 256) (k : Fin 8192) :
    iblk m c 0 t (ix2 i k) = m ((c : Thread nD τ).loc main_arg0) (ix3 i 0 k) := by
  obtain ⟨e0, e1⟩ := in_idx0 t
  show V m c main_v0 (((cfg0.win 0).blk t).view.emb (ix2 i k)) = _
  rw [show ((cfg0.win 0).blk t).view.emb (ix2 i k) = (ix2 i k : S256x8192.Idx) by
    funext a; apply Fin.ext
    match a with
    | ⟨0, _⟩ => show win0_0.index t (0 : Fin 2) * 256 + 1 * i.val = i.val; omega
    | ⟨1, _⟩ => show win0_0.index t (1 : Fin 2) * 8192 + 1 * k.val = k.val; omega]
  rw [V_v0]
  exact flat_apply _ _ _

/-- A block of the gate's weights. -/
theorem iblk1_apply (c : Dev nD) (t : Fin cfg0.N) (q : Fin 8192) (k : Fin 512) (kg : Fin 16384) (hk : kg.val = 512 * t.val + k.val) :
    iblk m c 1 t (ix2 q k) = m ((c : Thread nD τ).loc main_arg1) (ix2 q kg) := by
  obtain ⟨e0, e1⟩ := in_idx1 t
  show V m c main_arg1 (((cfg0.win 1).blk t).view.emb (ix2 q k)) = _
  rw [show ((cfg0.win 1).blk t).view.emb (ix2 q k) = (ix2 q kg : S8192x16384.Idx) by
    funext a; apply Fin.ext
    match a with
    | ⟨0, _⟩ => show win0_1.index t (0 : Fin 2) * 8192 + 1 * q.val = q.val; omega
    | ⟨1, _⟩ => show win0_1.index t (1 : Fin 2) * 512 + 1 * k.val = kg.val; omega]
  rw [V_main_arg1]

/-- A block of the up projection's weights. -/
theorem iblk2_apply (c : Dev nD) (t : Fin cfg0.N) (q : Fin 8192) (k : Fin 512) (ku : Fin 16384) (hk : ku.val = 8192 + (512 * t.val + k.val)) :
    iblk m c 2 t (ix2 q k) = m ((c : Thread nD τ).loc main_arg1) (ix2 q ku) := by
  obtain ⟨e0, e1⟩ := in_idx2 t
  show V m c main_arg1 (((cfg0.win 2).blk t).view.emb (ix2 q k)) = _
  rw [show ((cfg0.win 2).blk t).view.emb (ix2 q k) = (ix2 q ku : S8192x16384.Idx) by
    funext a; apply Fin.ext
    match a with
    | ⟨0, _⟩ => show win0_2.index t (0 : Fin 2) * 8192 + 1 * q.val = q.val; omega
    | ⟨1, _⟩ => show win0_2.index t (1 : Fin 2) * 512 + 1 * k.val = ku.val; omega]
  rw [V_main_arg1]

/-- A block of the gate's scales. -/
theorem iblk3_apply (c : Dev nD) (t : Fin cfg0.N) (k : Fin 512) (kg : Fin 16384) (hk : kg.val = 512 * t.val + k.val) :
    iblk m c 3 t (ix2 0 k) = m ((c : Thread nD τ).loc main_arg2) (ix1 kg) := by
  obtain ⟨e0, e1⟩ := in_idx3 t
  show V m c main_v1 (((cfg0.win 3).blk t).view.emb (ix2 0 k)) = _
  rw [show ((cfg0.win 3).blk t).view.emb (ix2 0 k) = (ix2 0 kg : S1x16384.Idx) by
    funext a; apply Fin.ext
    match a with
    | ⟨0, _⟩ => show win0_3.index t (0 : Fin 2) * 1 + 1 * 0 = 0; omega
    | ⟨1, _⟩ => show win0_3.index t (1 : Fin 2) * 512 + 1 * k.val = kg.val; omega]
  rw [V_v1]
  exact shapeCast_a_1a_apply _ _ _ _

/-- A block of the up projection's scales. -/
theorem iblk4_apply (c : Dev nD) (t : Fin cfg0.N) (k : Fin 512) (ku : Fin 16384) (hk : ku.val = 8192 + (512 * t.val + k.val)) :
    iblk m c 4 t (ix2 0 k) = m ((c : Thread nD τ).loc main_arg2) (ix1 ku) := by
  obtain ⟨e0, e1⟩ := in_idx4 t
  show V m c main_v2 (((cfg0.win 4).blk t).view.emb (ix2 0 k)) = _
  rw [show ((cfg0.win 4).blk t).view.emb (ix2 0 k) = (ix2 0 ku : S1x16384.Idx) by
    funext a; apply Fin.ext
    match a with
    | ⟨0, _⟩ => show win0_4.index t (0 : Fin 2) * 1 + 1 * 0 = 0; omega
    | ⟨1, _⟩ => show win0_4.index t (1 : Fin 2) * 512 + 1 * k.val = ku.val; omega]
  rw [V_v2]
  exact shapeCast_a_1a_apply _ _ _ _

end Cert.KernelIdeal.Hand

end
-- ==== Proof.KerEq.lean ====
/- The kernel's four result arrays are the plain functions of its arguments. The one step of substance: the largest absolute
   value of a row, taken block by block from zero, is that of the whole row. -/
module

public import proofs.«01_k».proof.Proof.Spec
public import proofs.«01_k».proof.Proof.KerPay
public import proofs.«01_k».proof.Proof.Value

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Exp

variable (m : (ℓ : Loc nD τ sig) → Buf (Elt Ideal) ℓ) (c : Dev nD)

/-- x, as the plain functions take it, -/
def argX : Spec.Rows := m ((c : Thread nD τ).loc main_arg0)
/-- the weights, -/
def argW : Spec.Weights := m ((c : Thread nD τ).loc main_arg1)
/-- the scales. -/
def argS : Spec.Scales := m ((c : Thread nD τ).loc main_arg2)

/-- The scales of x. -/
theorem XS_apply (i : Fin 256) (u : Fin 1) : XS m c (ix2 i u) = Spec.xScale (argX m c) i := by
  unfold XS
  rw [xScales_apply]
  simp only [iblk0_apply]
  rfl

/-- The codes of x. -/
theorem XC_apply (i : Fin 256) (k : Fin 8192) : XC m c (ix2 i k) = Spec.xCode (argX m c) i k := by
  unfold XC
  rw [xCodes_apply]
  simp only [iblk0_apply]
  rfl

/-- A block of the activation. -/
theorem HB_apply (t : Fin cfg0.N) (i : Fin 256) (k : Fin 512) (j : Fin 8192) (hj : j.val = 512 * t.val + k.val) :
    HB m c t (ix2 i k) = Spec.act (argX m c) (argW m c) (argS m c) i j := by
  unfold HB
  rw [hBlock_apply]
  rw [XS_apply, iblk3_apply m c t k ⟨j.val, by omega⟩ hj, iblk4_apply m c t k ⟨8192 + j.val, by omega⟩ (by simp only [hj])]
  simp only [XC_apply, fun q => iblk1_apply m c t q k ⟨j.val, by omega⟩ hj,
    fun q => iblk2_apply m c t q k ⟨8192 + j.val, by omega⟩ (by simp only [hj])]
  rfl

/-- The activation held. -/
theorem HH_apply (i : Fin 256) (k : Fin 8192) : HH m c (ix2 i k) = Spec.act (argX m c) (argW m c) (argS m c) i k := by
  have h : colIdx (ix2 i k) = (ix2 i ⟨k.val % 512, by omega⟩ : S256x512.Idx) := by
    funext a; match a with
    | ⟨0, _⟩ => rfl
    | ⟨1, _⟩ => rfl
  unfold HH
  rw [h]
  exact HB_apply m c _ i _ k (by show k.val = 512 * (k.val / 512) + k.val % 512; omega)

/-- What the running largest absolute value is at most, after n blocks. -/
theorem AM_le (i : Fin 256) (b : EReal) : ∀ n : ℕ, n ≤ 16 →
    (AM m c n (ix2 i 0) ≤ b ↔ 0 ≤ b ∧ ∀ k : Fin 8192, k.val < 512 * n →
      max (Spec.act (argX m c) (argW m c) (argS m c) i k) (-(Spec.act (argX m c) (argW m c) (argS m c) i k)) ≤ b)
  | 0, _ => by
    rw [show AM m c 0 (ix2 i 0) = 0 from amaxZero_apply i 0]
    exact ⟨fun h => ⟨h, fun k hk => absurd hk (by omega)⟩, fun h => h.1⟩
  | n + 1, hn => by
    have hN : n < cfg0.N := by rw [show cfg0.N = 16 from N_0]; omega
    have ih := AM_le i b n (by omega)
    have e : AM m c (n + 1) (ix2 i 0) = max (AM m c n (ix2 i 0)) (rowMax fun k : Fin 512 => HB m c ⟨n, hN⟩ (ix2 i k)) := by
      rw [AM_succ m c ⟨n, hN⟩]
      exact amaxNext_apply _ _ _ _ _ _ _ _ _
    rw [e, max_le_iff, ih, rowMax_le]
    constructor
    · rintro ⟨⟨h0, h1⟩, h2⟩
      refine ⟨h0, fun k hk => ?_⟩
      by_cases hlt : k.val < 512 * n
      · exact h1 k hlt
      · have h3 := h2 ⟨k.val - 512 * n, by omega⟩
        rwa [HB_apply m c ⟨n, hN⟩ i ⟨k.val - 512 * n, by omega⟩ k (by show k.val = 512 * n + (k.val - 512 * n); omega)] at h3
    · rintro ⟨h0, h1⟩
      refine ⟨⟨h0, fun k hk => h1 k (by omega)⟩, fun k => ?_⟩
      rw [HB_apply m c ⟨n, hN⟩ i k ⟨512 * n + k.val, by omega⟩ rfl]
      exact h1 _ (by show 512 * n + k.val < 512 * (n + 1); omega)

/-- After the last block it is the largest absolute value of the whole row. -/
theorem AM_last (i : Fin 256) :
    AM m c 16 (ix2 i 0) = rowMax fun k : Fin 8192 => Spec.act (argX m c) (argW m c) (argS m c) i k := by
  refine eq_of_forall_ge_iff fun b => ?_
  rw [AM_le m c i b 16 le_rfl, rowMax_le]
  exact ⟨fun h k => h.2 k (by omega), fun h => ⟨(abs_nonneg' _).trans (h 0), fun k _ => h k⟩⟩

/-- The scales of the activation. -/
theorem HS_apply (i : Fin 256) (u : Fin 1) :
    hScales (AM m c 16) (ix2 i u) = Spec.hScale (argX m c) (argW m c) (argS m c) i := by
  rw [hScales_apply, AM_last]
  rfl

/-- The codes of the activation. -/
theorem HC_apply (i : Fin 256) (k : Fin 8192) :
    hCodes (AM m c 16) (HH m c) (ix2 i k) = Spec.hCode (argX m c) (argW m c) (argS m c) i k := by
  rw [hCodes_apply, AM_last, HH_apply]
  rfl

end Cert.KernelIdeal.Hand

end
-- ==== Proof.RefPay.lean ====
/- The reference's quantisation and its h, element by element, on the extended reals. -/
module

public import proofs.«01_k».proof.Proof.Gen.ReferenceIdeal.Skeleton
public import proofs.«01_k».proof.Proof.Row
public import Idealize.ShloMosaic.Lib.ValueLayout
public import Idealize.ShloMosaic.Lib.ValueLayoutCasts
public import Idealize.ShloMosaic.Lib.ValueIdx

@[expose] public section

set_option maxRecDepth 16384

noncomputable section

namespace Cert.ReferenceIdeal.Hand

open Idealize.ShloMosaic Idealize.ShloMosaic.ValueIdx Cert.Exp
open Cert.ReferenceIdeal Cert.ReferenceIdeal.Gen

/-- The candidates for the exponent: -125 … 126. -/
def cand : FVec Ideal S1x252 .f32 := subf (sitofp .f32 (iota .tc S1x252 32 [1] iota_S1x252_d1_w32)) (broadcast S1x252 (Scalar.ofBits .f32 0x42FA0000#32))

/-- The candidates whose power of two lies above a row's value, the others replaced by 126. -/
def above (t : FVec Ideal S256x1 .f32) : FVec Ideal S256x252 .f32 :=
  select (cmpf .olt (broadcastTo S256x252 t broadcasts_S256x1_S256x252) (broadcastTo S256x252 (exp2 cand) broadcasts_S1x252_S256x252))
    (broadcastTo S256x252 (shapeCast S1x252 cand shapeCasts_S1x252_S1x252) broadcasts_S1x252_S256x252) (broadcast S256x252 (Scalar.ofBits .f32 0x42FC0000#32))

/-- The exponent of every row, from the rows' largest absolute values times 1/448. -/
def refExp (t : FVec Ideal S256x1 .f32) : FVec Ideal S256x1 .f32 :=
  select (andi (cmpf .oge t (broadcast S256x1 (Scalar.ofBits .f32 0x00800000#32))) (cmpf .olt (absf t) (broadcast S256x1 (Scalar.ofBits .f32 0x7F800000#32))))
    (shapeCast S256x1 (multiReduction .minimumf [1] S256
      (above t) 0x7F800000#32 reduces_S256x252_S256 (.inl rfl) rfl) shapeCasts_S256_S256x1)
    (broadcast S256x1 (Scalar.ofBits .f32 0x00000000#32))

/-- The rows' largest absolute values. -/
def amax (v : FVec Ideal S256x8192 .f32) : FVec Ideal S256x1 .f32 :=
  shapeCast S256x1 (multiReduction .maximumf [1] S256 (absf v) 0xFF800000#32 reduces_S256x8192_S256 (.inl rfl) rfl) shapeCasts_S256_S256x1

/-- The scaled maximum of a row. -/
theorem scaled_apply (v : FVec Ideal S256x1 .f32) (j : S256x1.Idx) : (mulf v (broadcast S256x1 cr) : FVec Ideal S256x1 .f32) j = (v j * cr : EReal) := rfl

/-- Base-two exponentials of a column. -/
theorem exp2_apply (v : FVec Ideal S256x1 .f32) (j : S256x1.Idx) : exp2 v j = Ideal.exp2 (v j) := rfl

/-- The exponent of x's rows -/
theorem pay3_eq (x : Vec Ideal S256x1x8192 .bf16) : k0_pay3 (F := Ideal) x = refExp (mulf (amax (k0_pay2 x)) (broadcast S256x1 cr)) := rfl

/-- and of h's is the same function. -/
theorem pay8_eq (s : FVec Ideal S256x1 .f32) (d : FVec Ideal S256x16384 .f32) (ws : Vec Ideal S16384 .f32) :
    k0_pay8 (F := Ideal) s d ws = refExp (mulf (amax (k0_pay7 s d ws)) (broadcast S256x1 cr)) := rfl

/-- A candidate. -/
theorem cand_apply (k : Fin 252) : cand (ix2 0 k) = ((((k.val : ℤ) - 125 : ℤ) : ℝ) : EReal) := by
  have hk := k.isLt
  show (((iota .tc S1x252 32 [1] iota_S1x252_d1_w32 (ix2 (0 : Fin 1) k)).toInt : ℝ) : EReal) - Ideal.ofBits .f32 0x42FA0000#32 = _
  rw [iota_single_apply]
  have h125 : Ideal.ofBits .f32 0x42FA0000#32 = ((125 : ℝ) : EReal) := by
    simp [Ideal.ofBits, Ideal.ieee, -EReal.coe_mul]; norm_num
  have hn : (BitVec.ofNat 32 ((ix2 (0 : Fin 1) k : S1x252.Idx) 1).val).toInt = (k.val : ℤ) := by
    show (BitVec.ofNat 32 k.val).toInt = _
    rw [BitVec.toInt_eq_toNat_of_lt (by rw [BitVec.toNat_ofNat]; omega), BitVec.toNat_ofNat]
    omega
  rw [h125, hn, ← EReal.coe_sub]
  push_cast
  rfl

/-- The largest absolute value of a row. -/
theorem amax_apply (v : FVec Ideal S256x8192 .f32) (i : Fin 256) (u : Fin 1) : amax v (ix2 i u) = rowMax fun k : Fin 8192 => v (ix2 i k) := by
  unfold amax
  rw [shapeCast_a_a1_apply]
  refine (Ideal.multiReduction_maximumf_single _ _ _ _ _ _).trans ?_
  unfold rowMax
  rw [show FloatOps.ofBits (F := Ideal) .f32 0xFF800000#32 = (⊥ : EReal) from by simp [Ideal.ofBits, Ideal.ieee]]
  congr 1
  funext k
  show max (v _) (-(v _)) = _
  rw [show reduces_S256x8192_S256.lift (ix1 i) k = ix2 i k by
    funext d; match d with | ⟨0, _⟩ => rfl | ⟨1, _⟩ => rfl]
  rfl

/-- One candidate of a row. -/
theorem above_apply (t : FVec Ideal S256x1 .f32) (i : Fin 256) (k : Fin 252) :
    above t (ix2 i k) = if t (ix2 i 0) < pw ((k.val : ℤ) - 125) then ((((k.val : ℤ) - 125 : ℤ) : ℝ) : EReal) else (((126 : ℤ) : ℝ) : EReal) := by
  have h126 : (FloatOps.ofBits .f32 0x42FC0000#32 : Ideal .f32) = (((126 : ℤ) : ℝ) : EReal) := by
    show Ideal.ofBits .f32 0x42FC0000#32 = _
    simp [Ideal.ofBits, Ideal.ieee, -EReal.coe_mul]; norm_num
  unfold above
  rw [select_apply, cmpf_apply, broadcastTo_a1_ab_apply, broadcastTo_1b_ab_apply, broadcastTo_1b_ab_apply, shapeCast_self]
  rw [show exp2 cand (ix2 (0 : Fin 1) k) = pw ((k.val : ℤ) - 125) by
    rw [← exp2_int, ← cand_apply]; rfl, cand_apply, broadcast_apply, h126]
  show Scalar.select (BitVec.ofBool (decide (t (ix2 i 0) < pw ((k.val : ℤ) - 125)))) _ _ = _
  split
  · rename_i hlt; rw [decide_eq_true hlt]; rfl
  · rename_i hlt; rw [decide_eq_false hlt]; rfl

/-- The exponent of a row. -/
theorem refExp_apply (t : FVec Ideal S256x1 .f32) (i : Fin 256) (u : Fin 1) : refExp t (ix2 i u) = ((eOf (t (ix2 i 0)) : ℝ) : EReal) := by
  obtain rfl : u = 0 := Subsingleton.elim _ _
  refine Eq.trans ?_ (ref_eq (t (ix2 i 0)) (fun k => above t (ix2 i k)) (above_apply t i))
  unfold refExp
  rw [select_apply]
  refine congrArg (fun y : EReal => Scalar.select (IntOp.andi (Ideal.cmp .oge (t (ix2 i 0)) (Ideal.ofBits .f32 0x00800000#32))
    (Ideal.cmp .olt (max (t (ix2 i 0)) (-(t (ix2 i 0)))) (Ideal.ofBits .f32 0x7F800000#32))) y (Ideal.ofBits .f32 0x00000000#32)) ?_
  refine (shapeCast_a_a1_apply _ _ _ _).trans ?_
  refine (multiReduction_minimumf_eq_fold _ _ _ _ _ _).trans ?_
  refine (reduces_S256x252_S256.fold_filter_drop_single _ _ _ _).trans ?_
  refine congrArg (fun f : Fin 252 → EReal => Finset.fold min (Ideal.ofBits .f32 0x7F800000#32) f (Finset.univ : Finset (Fin 252))) (funext ?_)
  refine (?_ : ∀ k : Fin 252, _)
  intro k
  refine congrArg (above t) ?_
  funext d; match d with | ⟨0, _⟩ => rfl | ⟨1, _⟩ => rfl

/-- Negating an exponent. -/
theorem exp2_neg (e : ℤ) : Ideal.exp2 ((0 : EReal) - ((e : ℝ) : EReal)) = pw (-e) := by
  rw [← exp2_int, zero_sub, ← EReal.coe_neg]; push_cast; rfl

/-- x widened, read at a row and a column. -/
theorem pay2_apply (x : Vec Ideal S256x1x8192 .bf16) (i : Fin 256) (k : Fin 8192) : k0_pay2 (F := Ideal) x (ix2 i k) = x (ix3 i 0 k) := by
  unfold k0_pay2
  show shapeCast S256x8192 x _ (ix2 i k) = _
  refine shapeCast_apply x _ _ _ ?_
  rw [Shape.rowMajor_val_two, Shape.rowMajor_val_three]
  show (i.val * 1 + 0) * 8192 + k.val = i.val * 8192 + k.val
  omega

/-- The scale of a row of x. -/
theorem pay5_apply (x : Vec Ideal S256x1x8192 .bf16) (i : Fin 256) (u : Fin 1) :
    k0_pay5 (F := Ideal) x (ix2 i u) = pw (eOf ((rowMax fun k : Fin 8192 => x (ix3 i 0 k)) * cr)) := by
  unfold k0_pay5
  rw [exp2_apply, pay3_eq, refExp_apply, exp2_int, scaled_apply, amax_apply]
  simp only [pay2_apply]

/-- A code, from the value and the row's exponent. -/
theorem code_apply (v : FVec Ideal S256x8192 .f32) (w : FVec Ideal S256x1 .f32) (e : ℤ) (i : Fin 256) (k : Fin 8192)
    (hw : w (ix2 i 0) = ((e : ℝ) : EReal)) :
    (truncf .fp8e4m3 (minimumf (broadcast S256x8192 (Scalar.ofBits .f32 0x43E00000#32)) (maximumf (broadcast S256x8192 (Scalar.ofBits .f32 0xC3E00000#32))
      (mulf v (broadcastTo S256x8192 (exp2 (subf (broadcast S256x1 (Scalar.ofBits .f32 0x00000000#32)) w)) broadcasts_S256x1_S256x8192)))) bitsLt_fp8e4m3_f32 : FVec Ideal S256x8192 .fp8e4m3) (ix2 i k)
      = clip (v (ix2 i k) * pw (-e)) := by
  show min _ (max _ (v (ix2 i k) * broadcastTo S256x8192 (exp2 (subf (broadcast S256x1 (Scalar.ofBits .f32 0x00000000#32)) w)) broadcasts_S256x1_S256x8192 (ix2 i k))) = _
  rw [broadcastTo_a1_ab_apply]
  rw [show exp2 (subf (broadcast S256x1 (Scalar.ofBits .f32 0x00000000#32)) w) (ix2 i 0) = pw (-e) by
    show Ideal.exp2 (Ideal.ofBits .f32 0x00000000#32 - w (ix2 i 0)) = _
    rw [hw, Ideal.ofBits_zero_f32, exp2_neg]]
  rfl

/-- A code of x. -/
theorem pay4_apply (x : Vec Ideal S256x1x8192 .bf16) (i : Fin 256) (k : Fin 8192) :
    k0_pay4 (F := Ideal) x (ix2 i k) = clip (x (ix3 i 0 k) * pw (-(eOf ((rowMax fun k : Fin 8192 => x (ix3 i 0 k)) * cr)))) := by
  refine (code_apply (k0_pay2 x) (k0_pay3 x) (eOf ((rowMax fun k : Fin 8192 => x (ix3 i 0 k)) * cr)) i k ?_).trans (by rw [pay2_apply])
  rw [pay3_eq, refExp_apply, scaled_apply, amax_apply]
  simp only [pay2_apply]

/-- The exponent of a row of h. -/
theorem pay8_apply (s : FVec Ideal S256x1 .f32) (d : FVec Ideal S256x16384 .f32) (ws : Vec Ideal S16384 .f32) (i : Fin 256) (u : Fin 1) :
    k0_pay8 (F := Ideal) s d ws (ix2 i u) = ((eOf ((rowMax fun k : Fin 8192 => k0_pay7 (F := Ideal) s d ws (ix2 i k)) * cr) : ℝ) : EReal) := by
  rw [pay8_eq, refExp_apply, scaled_apply, amax_apply]

/-- The scale of a row of h. -/
theorem pay1_apply (s : FVec Ideal S256x1 .f32) (d : FVec Ideal S256x16384 .f32) (ws : Vec Ideal S16384 .f32) (i : Fin 256) (u : Fin 1) :
    k0_pay1 (F := Ideal) (k0_pay8 s d ws) (ix2 i u) = pw (eOf ((rowMax fun k : Fin 8192 => k0_pay7 (F := Ideal) s d ws (ix2 i k)) * cr)) := by
  unfold k0_pay1
  rw [exp2_apply, pay8_apply, exp2_int]

/-- A code of h. -/
theorem pay9_apply (s : FVec Ideal S256x1 .f32) (d : FVec Ideal S256x16384 .f32) (ws : Vec Ideal S16384 .f32) (i : Fin 256) (k : Fin 8192) :
    k0_pay9 (F := Ideal) s d ws (ix2 i k)
      = clip (k0_pay7 (F := Ideal) s d ws (ix2 i k) * pw (-(eOf ((rowMax fun k : Fin 8192 => k0_pay7 (F := Ideal) s d ws (ix2 i k)) * cr)))) :=
  code_apply (k0_pay7 s d ws) (k0_pay8 s d ws) _ i k (pay8_apply s d ws i 0)

/-- The dot of a row of codes with a column of the weights. -/
theorem pay6_apply (x : Vec Ideal S256x1x8192 .bf16) (r : Vec Ideal S8192x16384 .fp8e4m3) (i : Fin 256) (k : Fin 16384) :
    k0_pay6 (F := Ideal) x r (ix2 i k) = ∑ q : Fin 8192, (k0_pay4 (F := Ideal) x (ix2 i q) * r (ix2 q k) : EReal) := by
  unfold k0_pay6
  generalize k0_pay4 (F := Ideal) x = l
  refine (Ideal.matmul_constant_zero_apply dot_S256x8192_S8192x16384_S256x16384_1_0_0_1_n_n none l r (ix2 i k)).trans ?_
  refine Fintype.sum_equiv (contrEquiv1 dot_S256x8192_S8192x16384_S256x16384_1_0_0_1_n_n 8192 rfl rfl) _ _ fun q => ?_
  congr 1
  · congr 1; funext d; match d with | ⟨0, _⟩ => rfl | ⟨1, _⟩ => rfl
  · congr 1; funext d; match d with | ⟨0, _⟩ => rfl | ⟨1, _⟩ => rfl

/-- One element of h, from the dots. -/
theorem pay7_apply (s : FVec Ideal S256x1 .f32) (d : FVec Ideal S256x16384 .f32) (ws : Vec Ideal S16384 .f32) (i : Fin 256) (k : Fin 8192)
    (kg ku : Fin 16384) (hg : kg.val = k.val) (hu : ku.val = 8192 + k.val) :
    k0_pay7 (F := Ideal) s d ws (ix2 i k)
      = swiglu (d (ix2 i kg) * s (ix2 i 0) * ws (ix1 kg)) (d (ix2 i ku) * s (ix2 i 0) * ws (ix1 ku)) := by
  have hv : ∀ c : Fin 16384, (mulf (mulf d (broadcastTo S256x16384 s broadcasts_S256x1_S256x16384))
      (broadcastTo S256x16384 (shapeCast S1x16384 ws shapeCasts_S16384_S1x16384) broadcasts_S1x16384_S256x16384) : FVec Ideal S256x16384 .f32) (ix2 i c)
        = d (ix2 i c) * s (ix2 i 0) * ws (ix1 c) := fun c => by
    rw [← broadcastTo_a1_ab_apply s broadcasts_S256x1_S256x16384 i c, ← shapeCast_a_1a_apply ws shapeCasts_S16384_S1x16384 0 c,
      ← broadcastTo_1b_ab_apply (shapeCast S1x16384 ws shapeCasts_S16384_S1x16384) broadcasts_S1x16384_S256x16384 i c]
    rfl
  rw [← hv, ← hv]
  unfold k0_pay7
  generalize (mulf (mulf d (broadcastTo S256x16384 s broadcasts_S256x1_S256x16384))
      (broadcastTo S256x16384 (shapeCast S1x16384 ws shapeCasts_S16384_S1x16384) broadcasts_S1x16384_S256x16384) : FVec Ideal S256x16384 .f32) = v
  rw [← slice2_axis1_apply 0 v slices_S256x16384_o0_0_S256x8192 i k kg (by omega), ← slice2_axis1_apply 8192 v slices_S256x16384_o0_8192_S256x8192 i k ku hu]
  rfl

end Cert.ReferenceIdeal.Hand

end
-- ==== Proof.RefValue.lean ====
/- What the reference leaves in its four result arrays: it has one grid point, and every window's block is its whole
   array, so each result is the body's function of the three arguments. -/
module

public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S256x1x8192.Idx) : ((cfg0.win 0).blk t).view.emb j = j := by
  obtain ⟨e0, e1, e2⟩ := idx_zero0 t
  funext a; apply Fin.ext
  match a with
  | ⟨0, _⟩ => show win0_0.index t (0 : Fin 3) * 256 + 1 * (j 0).val = (j 0).val; omega
  | ⟨1, _⟩ => show win0_0.index t (1 : Fin 3) * 1 + 1 * (j 1).val = (j 1).val; omega
  | ⟨2, _⟩ => show win0_0.index t (2 : Fin 3) * 8192 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S8192x16384.Idx) : ((cfg0.win 1).blk t).view.emb j = j := by
  obtain ⟨e0, e1⟩ := idx_zero1 t
  funext a; apply Fin.ext
  match a with
  | ⟨0, _⟩ => show win0_1.index t (0 : Fin 2) * 8192 + 1 * (j 0).val = (j 0).val; omega
  | ⟨1, _⟩ => show win0_1.index t (1 : Fin 2) * 16384 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S16384.Idx) : ((cfg0.win 2).blk t).view.emb j = j := by
  have e0 := idx_zero2 t
  funext a; apply Fin.ext
  match a with
  | ⟨0, _⟩ => show win0_2.index t (0 : Fin 1) * 16384 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S256x1.Idx) : ((cfg0.win 3).blk t).view.emb j = j := by
  obtain ⟨e0, e1⟩ := idx_zero3 t
  funext a; apply Fin.ext
  match a with
  | ⟨0, _⟩ => show win0_3.index t (0 : Fin 2) * 256 + 1 * (j 0).val = (j 0).val; omega
  | ⟨1, _⟩ => show win0_3.index t (1 : Fin 2) * 1 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S256x8192.Idx) : ((cfg0.win 4).blk t).view.emb j = j := by
  obtain ⟨e0, e1⟩ := idx_zero4 t
  funext a; apply Fin.ext
  match a with
  | ⟨0, _⟩ => show win0_4.index t (0 : Fin 2) * 256 + 1 * (j 0).val = (j 0).val; omega
  | ⟨1, _⟩ => show win0_4.index t (1 : Fin 2) * 8192 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S256x8192.Idx) : ((cfg0.win 5).blk t).view.emb j = j := by
  obtain ⟨e0, e1⟩ := idx_zero5 t
  funext a; apply Fin.ext
  match a with
  | ⟨0, _⟩ => show win0_5.index t (0 : Fin 2) * 256 + 1 * (j 0).val = (j 0).val; omega
  | ⟨1, _⟩ => show win0_5.index t (1 : Fin 2) * 8192 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S256x1.Idx) : ((cfg0.win 6).blk t).view.emb j = j := by
  obtain ⟨e0, e1⟩ := idx_zero6 t
  funext a; apply Fin.ext
  match a with
  | ⟨0, _⟩ => show win0_6.index t (0 : Fin 2) * 256 + 1 * (j 0).val = (j 0).val; omega
  | ⟨1, _⟩ => show win0_6.index t (1 : Fin 2) * 1 + 1 * (j 1).val = (j 1).val; omega

/-! ### Output window 3: the array after the run -/

/-- What the window's array ends holding: `out0_3` applied to the argument arrays in place of the input blocks (a value that the
    frame states apart, `kK_payN a…`, keeps its loads inside its own definition). -/
abbrev G3 (a0 : Vec F S256x1x8192 .bf16) (a1 : Vec F S8192x16384 .fp8e4m3) (a2 : Vec F S16384 .f32) : Vec F S256x1 .f32 :=
  k0_pay1 (k0_pay8 (k0_pay10 a0 a1 a2) (k0_pay11 a0 a1 a2) a2)

/-- A load of the whole of a block reads the block, and the one store through the whole rectangle leaves its payload. -/
theorem out3_eq (a0 : Vec F S256x1x8192 .bf16) (a1 : Vec F S8192x16384 .fp8e4m3) (a2 : Vec F S16384 .f32) : out0_3 (F := F) a0 a1 a2 = G3 a0 a1 a2 := by
  unfold out0_3
  rw [View.canon_unit_zero hz3, View.ld_unit_zero (S := S16384) hz2 _ a2]

/-- Cutting the point's block out of `X` and reading `X` through the block's view give the same. -/
theorem cut3_eq (t : Fin cfg0.N) (X : Vec F S256x1 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S256x1.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S256x1x8192 .bf16) (a1 : Vec F S8192x16384 .fp8e4m3) (a2 : Vec F S16384 .f32) : Vec F S256x8192 .fp8e4m3 :=
  k0_pay9 (k0_pay10 a0 a1 a2) (k0_pay11 a0 a1 a2) a2

/-- A load of the whole of a block reads the block, and the one store through the whole rectangle leaves its payload. -/
theorem out4_eq (a0 : Vec F S256x1x8192 .bf16) (a1 : Vec F S8192x16384 .fp8e4m3) (a2 : Vec F S16384 .f32) : out0_4 (F := F) a0 a1 a2 = G4 a0 a1 a2 := by
  unfold out0_4
  rw [View.canon_unit_zero hz4, View.ld_unit_zero (S := S16384) hz2 _ a2]

/-- Cutting the point's block out of `X` and reading `X` through the block's view give the same. -/
theorem cut4_eq (t : Fin cfg0.N) (X : Vec F S256x8192 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S256x8192.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S256x1x8192 .bf16) (a1 : Vec F S8192x16384 .fp8e4m3) (a2 : Vec F S16384 .f32) : Vec F S256x8192 .fp8e4m3 :=
  k0_pay4 a0

/-- A load of the whole of a block reads the block, and the one store through the whole rectangle leaves its payload. -/
theorem out5_eq (a0 : Vec F S256x1x8192 .bf16) (a1 : Vec F S8192x16384 .fp8e4m3) (a2 : Vec F S16384 .f32) : out0_5 (F := F) a0 a1 a2 = G5 a0 a1 a2 := by
  unfold out0_5
  rw [View.canon_unit_zero hz5, View.ld_unit_zero (S := S256x1x8192) hz0 _ a0]

/-- Cutting the point's block out of `X` and reading `X` through the block's view give the same. -/
theorem cut5_eq (t : Fin cfg0.N) (X : Vec F S256x8192 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S256x8192.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S256x1x8192 .bf16) (a1 : Vec F S8192x16384 .fp8e4m3) (a2 : Vec F S16384 .f32) : Vec F S256x1 .f32 :=
  k0_pay10 a0 a1 a2

/-- The one store through the whole rectangle leaves its payload. -/
theorem out6_eq (a0 : Vec F S256x1x8192 .bf16) (a1 : Vec F S8192x16384 .fp8e4m3) (a2 : Vec F S16384 .f32) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S256x1 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S256x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      kept_main_arg0 m r h c,
      kept_main_arg1 m r h c,
      kept_main_arg2 m r h c⟩)
    (run_main m ρ)

end Cert.ReferenceIdeal.Hand

end
-- ==== Proof.RefEq.lean ====
/- The reference's four result arrays are the same plain functions of its arguments. -/
module

public import proofs.«01_k».proof.Proof.Spec
public import proofs.«01_k».proof.Proof.RefPay
public import proofs.«01_k».proof.Proof.RefValue

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.ValueIdx Cert.Exp

variable (a0 : Vec Ideal S256x1x8192 .bf16) (a1 : Vec Ideal S8192x16384 .fp8e4m3) (a2 : Vec Ideal S16384 .f32)

/-- The scales of x, read off the whole argument. -/
theorem pay10_eq : k0_pay10 a0 a1 a2 = k0_pay5 a0 := by
  unfold k0_pay10
  rw [View.ld_unit_zero (S := S256x1x8192) hz0 _ a0]

/-- The products, read off the whole arguments. -/
theorem pay11_eq : k0_pay11 a0 a1 a2 = k0_pay6 a0 a1 := by
  unfold k0_pay11
  rw [View.ld_unit_zero (S := S256x1x8192) hz0 _ a0, View.ld_unit_zero (S := S8192x16384) hz1 _ a1]

/-- The scales of x. -/
theorem G6_apply (i : Fin 256) (u : Fin 1) : k0_pay10 a0 a1 a2 (ix2 i u) = Spec.xScale a0 i := by
  rw [pay10_eq, pay5_apply]
  rfl

/-- The codes of x. -/
theorem G5_apply (i : Fin 256) (k : Fin 8192) : k0_pay4 a0 (ix2 i k) = Spec.xCode a0 i k := by
  rw [pay4_apply]
  rfl

/-- The products. -/
theorem dot_apply (i : Fin 256) (k : Fin 16384) : k0_pay11 a0 a1 a2 (ix2 i k) = ∑ q : Fin 8192, Spec.xCode a0 i q * a1 (ix2 q k) := by
  rw [pay11_eq, pay6_apply]
  exact Finset.sum_congr rfl fun q _ => by rw [G5_apply]

/-- The activation. -/
theorem act_apply (i : Fin 256) (k : Fin 8192) :
    k0_pay7 (k0_pay10 a0 a1 a2) (k0_pay11 a0 a1 a2) a2 (ix2 i k) = Spec.act a0 a1 a2 i k := by
  rw [pay7_apply _ _ _ i k ⟨k.val, by omega⟩ ⟨8192 + k.val, by omega⟩ rfl rfl, dot_apply, dot_apply, G6_apply]
  rfl

/-- The scales of the activation. -/
theorem G3_apply (i : Fin 256) (u : Fin 1) :
    k0_pay1 (k0_pay8 (k0_pay10 a0 a1 a2) (k0_pay11 a0 a1 a2) a2) (ix2 i u) = Spec.hScale a0 a1 a2 i := by
  rw [pay1_apply]
  simp only [act_apply]
  rfl

/-- The codes of the activation. -/
theorem G4_apply (i : Fin 256) (k : Fin 8192) :
    k0_pay9 (k0_pay10 a0 a1 a2) (k0_pay11 a0 a1 a2) a2 (ix2 i k) = Spec.hCode a0 a1 a2 i k := by
  rw [pay9_apply]
  simp only [act_apply]
  rfl

end Cert.ReferenceIdeal.Hand

end
-- ==== Proof.Equal.lean ====
/- Both programs, run from the same arguments, leave the same four results. -/
module

public import proofs.«01_k».proof.Defs
public import proofs.«01_k».proof.Proof.KerEq
public import proofs.«01_k».proof.Proof.RefEq

@[expose] public section

set_option maxRecDepth 16384

noncomputable section

namespace Cert.Equal

open Idealize.ShloMosaic Idealize.ShloMosaic.TcCoe Idealize.SL.Sem Idealize.ShloMosaic.ValueIdx

variable (m : (ℓ : Loc KernelIdeal.nD KernelIdeal.τ KernelIdeal.sig) → Buf (Elt Ideal) ℓ) (c : Dev KernelIdeal.nD)

/-- The scales of the activation agree, -/
theorem scales_h : ReferenceIdeal.Hand.G3 (F := Ideal) (KernelIdeal.Hand.argX m c) (KernelIdeal.Hand.argW m c) (KernelIdeal.Hand.argS m c)
    = KernelIdeal.Hand.hScales (KernelIdeal.Hand.AM m c 16) := by
  funext j
  rw [eq_ix2 j]
  exact (ReferenceIdeal.Hand.G3_apply _ _ _ _ _).trans (KernelIdeal.Hand.HS_apply m c _ _).symm

/-- its codes agree, -/
theorem codes_h : ReferenceIdeal.Hand.G4 (F := Ideal) (KernelIdeal.Hand.argX m c) (KernelIdeal.Hand.argW m c) (KernelIdeal.Hand.argS m c)
    = KernelIdeal.Hand.hCodes (KernelIdeal.Hand.AM m c 16) (KernelIdeal.Hand.HH m c) := by
  funext j
  rw [eq_ix2 j]
  exact (ReferenceIdeal.Hand.G4_apply _ _ _ _ _).trans (KernelIdeal.Hand.HC_apply m c _ _).symm

/-- the codes of x agree, -/
theorem codes_x : ReferenceIdeal.Hand.G5 (F := Ideal) (KernelIdeal.Hand.argX m c) (KernelIdeal.Hand.argW m c) (KernelIdeal.Hand.argS m c)
    = KernelIdeal.Hand.XC m c := by
  funext j
  rw [eq_ix2 j]
  exact (ReferenceIdeal.Hand.G5_apply _ _ _).trans (KernelIdeal.Hand.XC_apply m c _ _).symm

/-- and its scales agree. -/
theorem scales_x : ReferenceIdeal.Hand.G6 (F := Ideal) (KernelIdeal.Hand.argX m c) (KernelIdeal.Hand.argW m c) (KernelIdeal.Hand.argS m c)
    = KernelIdeal.Hand.XS m c := by
  funext j
  rw [eq_ix2 j]
  exact (ReferenceIdeal.Hand.G6_apply _ _ _ _ _).trans (KernelIdeal.Hand.XS_apply m c _ _).symm

/-- The claim: on the same arguments both runs end with the same four results. -/
theorem algebraic : algebraic_KernelIdeal_ReferenceIdeal (hKernelIdeal := KernelIdeal.Gen.facts) (hReferenceIdeal := ReferenceIdeal.Gen.facts) := by
  intro m g m' g' _ hargs
  refine ⟨fun c => KernelIdeal.Hand.hScales (KernelIdeal.Hand.AM m c 16), fun c => KernelIdeal.Hand.hCodes (KernelIdeal.Hand.AM m c 16) (KernelIdeal.Hand.HH m c),
    fun c => KernelIdeal.Hand.XC m c, fun c => KernelIdeal.Hand.XS m c, KernelIdeal.Hand.run m g, ?_⟩
  refine (θ_run _ _ _).mono (fun r h c => ?_) (ReferenceIdeal.Hand.run m' g')
  obtain ⟨h0, h1, h2, h3, hk⟩ := h c
  obtain ⟨ha, hw, hs⟩ := hargs c
  rw [ha, hw, hs] at h0 h1 h2 h3
  exact ⟨h0.trans (scales_h m c), h1.trans (codes_h m c), h2.trans (codes_x m c), h3.trans (scales_x m c), hk⟩

end Cert.Equal

end
-- ==== Proof.lean ====
module

public import proofs.«01_k».proof.Defs
public import proofs.«01_k».proof.Proof.Run
public import proofs.«01_k».proof.Proof.KRun
public import proofs.«01_k».proof.Proof.Gen.ReferenceIdeal.Frame
public import proofs.«01_k».proof.Proof.Equal

@[expose] public section

noncomputable section

namespace Cert.Proof

open Idealize.ShloMosaic Idealize.SL.Sem

/-- The certificate's claim: the three frames, and the equality of the kernel's four results with the reference's. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ => Cert.ReferenceIdeal.Gen.frame m g,
  trivial, Cert.Equal.algebraic⟩

end Cert.Proof

end
